-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logs_defined [hPre_logs_defined : Cert.Pre_logs_defined.Facts] (m : (ℓ : Loc Cert.KernelIdeal.nD Cert.KernelIdeal.τ Cert.KernelIdeal.sig) → Buf (Elt Ideal) ℓ) : Prop :=
  ∀ c : Dev Cert.KernelIdeal.nD,
    (Cert.Pre_logs_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logs_defined [hPre_logs_defined : Cert.Pre_logs_defined.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logs_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_logs_defined [hKernelIdeal : Cert.KernelIdeal.Facts] [hPre_logs_defined : Cert.Pre_logs_defined.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logs_defined m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_logs_defined [hReferenceIdeal : Cert.ReferenceIdeal.Facts] [hPre_logs_defined : Cert.Pre_logs_defined.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logs_defined m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "tiny_sq" .f32 0x179ABE15#32 ((5316911940649 / 5316911983139663491615228241121378304 : ℝ) : EReal)
  ∧ IdealRules.named_const.Statement Cert.KernelIdeal.κ "inv_temp" .f32 0x41649249#32 ((134217728 / 9395241 : ℝ) : EReal)
  ∧ IdealRules.named_const.Statement Cert.KernelIdeal.κ "two_inv_temp" .f32 0x41E49249#32 ((268435456 / 9395241 : ℝ) : EReal)

def algebraic_KernelIdeal_ReferenceIdeal_pre_logs_defined [hKernelIdeal : Cert.KernelIdeal.Facts] [hReferenceIdeal : Cert.ReferenceIdeal.Facts] [hPre_logs_defined : Cert.Pre_logs_defined.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logs_defined m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_logs_defined : Cert.Pre_logs_defined.Facts),
    quiescent_Kernel (hKernel := hKernel)
    ∧ quiescent_KernelIdeal (hKernelIdeal := hKernelIdeal)
    ∧ quiescent_KernelIdeal_pre_logs_defined (hKernelIdeal := hKernelIdeal) (hPre_logs_defined := hPre_logs_defined)
    ∧ quiescent_ReferenceIdeal (hReferenceIdeal := hReferenceIdeal)
    ∧ quiescent_ReferenceIdeal_pre_logs_defined (hReferenceIdeal := hReferenceIdeal) (hPre_logs_defined := hPre_logs_defined)
    ∧ preserves_Kernel_KernelIdeal
    ∧ algebraic_KernelIdeal_ReferenceIdeal_pre_logs_defined (hKernelIdeal := hKernelIdeal) (hReferenceIdeal := hReferenceIdeal) (hPre_logs_defined := hPre_logs_defined)
-- ==== Pre_logs_defined.lean ====
abbrev S8192x512 : Shape := ⟨2, ![8192, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S8192x256 : Shape := ⟨2, ![8192, 256]⟩
abbrev S1x256 : Shape := ⟨2, ![1, 256]⟩
abbrev S8192x128 : Shape := ⟨2, ![8192, 128]⟩
abbrev S1x128 : Shape := ⟨2, ![1, 128]⟩
abbrev S8192 : Shape := ⟨1, ![8192]⟩
abbrev S8192x1 : Shape := ⟨2, ![8192, 1]⟩
abbrev S16384x128 : Shape := ⟨2, ![16384, 128]⟩
abbrev S128x16384 : Shape := ⟨2, ![128, 16384]⟩
abbrev S16384x16384 : Shape := ⟨2, ![16384, 16384]⟩
abbrev S16384 : Shape := ⟨1, ![16384]⟩
abbrev S16384x1 : Shape := ⟨2, ![16384, 1]⟩
abbrev S16384x2 : Shape := ⟨2, ![16384, 2]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  reducesTo_S8192x256_S256_d0 : S8192x256.ReducesTo [0] S256
  bcast_S_S1x256 : S_.BroadcastsInDim S1x256 (![] : Fin 0 → Fin S1x256.rank)
  bcast_S_S8192x256 : S_.BroadcastsInDim S8192x256 (![] : Fin 0 → Fin S8192x256.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S8192_d1 : S8192x128.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  concatenates_S8192x128_S8192x128_S16384x128_d0 : Shape.Concatenates [S8192x128, S8192x128] S16384x128 0
  transposes_S16384x128_S128x16384_1_0 : S16384x128.Transposes [1, 0] S128x16384
  reducesTo_S16384x16384_S16384_d1 : S16384x16384.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  dot_S8192x512_S512x256_S8192x256_1_0_0_1_n_n_wf : DotDims.WF S8192x512 S512x256 S8192x256 [1] [0] [0] [1] [] []
  dot_S8192x256_S256x256_S8192x256_1_0_0_1_n_n_wf : DotDims.WF S8192x256 S256x256 S8192x256 [1] [0] [0] [1] [] []
  dot_S8192x256_S256x128_S8192x128_1_0_0_1_n_n_wf : DotDims.WF S8192x256 S256x128 S8192x128 [1] [0] [0] [1] [] []
  dot_S16384x128_S128x16384_S16384x16384_1_0_0_1_n_n_wf : DotDims.WF S16384x128 S128x16384 S16384x16384 [1] [0] [0] [1] [] []
  gather_S16384x16384_S16384x2_S16384_n_01_n_n_01_1_11_wf : GatherDims.WF S16384x16384 S16384x2 S16384 [] [0, 1] [] [0, 1] [] 1 ![1, 1]

variable [Facts]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf
def gather_S16384x16384_S16384x2_S16384_n_01_n_n_01_1_11 : GatherDims S16384x16384 S16384x2 S16384 where
  offsetDims := []
  collapsedSliceDims := [0, 1]
  operandBatchingDims := []
  startIndicesBatchingDims := []
  startIndexMap := [0, 1]
  indexVectorDim := 1
  sliceSizes := ![1, 1]
  wf := gather_S16384x16384_S16384x2_S16384_n_01_n_n_01_1_11_wf
def fn_where {F : FTy → Type} [FloatOps F] (arg0 : IVec S_ 1) (arg1 : FVec F S256 .f32) (arg2 : FVec F S_ .f32) : FVec F S256 .f32 :=
  let v0 : FVec F S_ .f32 := id arg2
  let v1 : FVec F S256 .f32 := broadcastInDim S256 ![] bcast_S_S256 v0
  let v2 : FVec F S256 .f32 := (fun p a b => select (broadcastInDim S256 ![] bcast_S_S256 p) a b) arg0 arg1 v1
  v2

def fn_var {F : FTy → Type} [FloatOps F] (arg0 : FVec F S8192x256 .f32) (arg1 : IVec S_ 32) : FVec F S256 .f32 :=
  let cst : FVec F S_ .f32 := constant S_ .f32 0x00000000#32
  let v0 : FVec F S256 .f32 := (fun x v => Host.reduceAdd x v reducesTo_S8192x256_S256_d0 h_S_) arg0 cst
  let v1 : FVec F S1x256 .f32 := broadcastInDim S1x256 ![1] bcast_S256_S1x256_1 v0
  let cst_0 : FVec F S_ .f32 := constant S_ .f32 0x46000000#32
  let v2 : FVec F S1x256 .f32 := broadcastInDim S1x256 ![] bcast_S_S1x256 cst_0
  let v3 : FVec F S1x256 .f32 := Host.divf v1 v2
  let v4 : FVec F S8192x256 .f32 := broadcastInDim S8192x256 ![0, 1] bcast_S1x256_S8192x256_0_1 v3
  let v5 : FVec F S8192x256 .f32 := subf arg0 v4
  let v6 : FVec F S8192x256 .f32 := mulf v5 v5
  let v7 : FVec F S_ .f32 := sitofp .f32 arg1
  let cst_1 : FVec F S_ .f32 := constant S_ .f32 0x46000000#32
  let v8 : FVec F S_ .f32 := subf cst_1 v7
  let cst_2 : FVec F S_ .f32 := constant S_ .f32 0x00000000#32
  let v9 : FVec F S256 .f32 := (fun x v => Host.reduceAdd x v reducesTo_S8192x256_S256_d0 h_S_) v6 cst_2
  let v10 : FVec F S256 .f32 := broadcastInDim S256 ![] bcast_S_S256 v8
  let v11 : FVec F S256 .f32 := Host.divf v9 v10
  let cst_3 : FVec F S_ .f32 := constant S_ .f32 0x00000000#32
  let v12 : IVec S_ 1 := cmpf .ogt v8 cst_3
  let cst_4 : FVec F S_ .f32 := constant S_ .f32 0x7FC00000#32
  let v13 : FVec F S256 .f32 := fn_where (F := F) v12 v11 cst_4
  v13

def fn_relu {F : FTy → Type} [FloatOps F] (arg0 : FVec F S8192x256 .f32) : FVec F S8192x256 .f32 :=
  let cst : FVec F S_ .f32 := constant S_ .f32 0x00000000#32
  let v0 : FVec F S8192x256 .f32 := broadcastInDim S8192x256 ![] bcast_S_S8192x256 cst
  let v1 : FVec F S8192x256 .f32 := maximumf arg0 v0
  v1

def fn_norm {F : FTy → Type} [FloatOps F] (arg0 : FVec F S8192x128 .f32) : FVec F S8192x1 .f32 :=
  let v0 : FVec F S8192x128 .f32 := mulf arg0 arg0
  let cst : FVec F S_ .f32 := constant S_ .f32 0x00000000#32
  let v1 : FVec F S8192 .f32 := (fun x v => Host.reduceAdd x v reducesTo_S8192x128_S8192_d1 h_S_) v0 cst
  let v2 : FVec F S8192x1 .f32 := broadcastInDim S8192x1 ![0] bcast_S8192_S8192x1_0 v1
  let v3 : FVec F S8192x1 .f32 := Host.sqrt v2
  v3

def fn_part10 {F : FTy → Type} [FloatOps F] (main_v59 : IVec S_ 1) (main_v176 : FVec F S16384x16384 .f32) (main_v178 : FVec F S16384 .f32) (main_v191 : IVec S16384x2 32) : IVec S16384 1 :=
  let main_v192 : FVec F S16384 .f32 := (fun x i => Host.gather gather_S16384x16384_S16384x2_S16384_n_01_n_n_01_1_11 x i) main_v176 main_v191
  let main_v193 : FVec F S16384 .f32 := subf main_v178 main_v192
  let main_cst_46 : FVec F S_ .f32 := constant S_ .f32 0x00000000#32
  let main_v194 : FVec F S16384 .f32 := broadcastInDim S16384 ![] bcast_S_S16384 main_cst_46
  let main_v195 : IVec S16384 1 := cmpf .oge main_v193 main_v194
  let main_v196 : IVec S16384 1 := broadcastInDim S16384 ![] bcast_S_S16384 main_v59
  let main_v197 : IVec S16384 1 := andi main_v196 main_v195
  main_v197

def fn_part9 {F : FTy → Type} [FloatOps F] (main_v59 : IVec S_ 1) (main_v163 : FVec F S8192x128 .f32) (main_v168 : FVec F S8192x128 .f32) (main_v172 : FVec F S8192x128 .f32) : IVec S16384 1 :=
  let main_v173 : FVec F S8192x128 .f32 := Host.divf main_v163 main_v172
  let main_v174 : FVec F S16384x128 .f32 := (fun a b => concatenate S16384x128 0 [⟨S8192x128, a⟩, ⟨S8192x128, b⟩] concatenates_S8192x128_S8192x128_S16384x128_d0) main_v168 main_v173
  let main_v175 : FVec F S128x16384 .f32 := (transpose S128x16384 [1, 0] · transposes_S16384x128_S128x16384_1_0) main_v174
  let main_v176 : FVec F S16384x16384 .f32 := (fun l r => Host.dotGeneral dot_S16384x128_S128x16384_S16384x16384_1_0_0_1_n_n none l r) main_v174 main_v175
  let main_v177 : IVec S16384 32 := iotaInDim S16384 32 0
  let main_cst_41 : FVec F S_ .f32 := constant S_ .f32 0x00000000#32
  let main_v178 : FVec F S16384 .f32 := (fun x v => Host.reduceAdd x v reducesTo_S16384x16384_S16384_d1 h_S_) main_v176 main_cst_41
  let main_c_42 : IVec S_ 32 := constantI S_ 32 0#32
  let main_v179 : IVec S16384 32 := broadcastInDim S16384 ![] bcast_S_S16384 main_c_42
  let main_v180 : IVec S16384 1 := cmpi .slt main_v177 main_v179
  let main_c_43 : IVec S_ 32 := constantI S_ 32 16384#32
  let main_v181 : IVec S16384 32 := broadcastInDim S16384 ![] bcast_S_S16384 main_c_43
  let main_v182 : IVec S16384 32 := addi main_v177 main_v181
  let main_v183 : IVec S16384 32 := select main_v180 main_v182 main_v177
  let main_c_44 : IVec S_ 32 := constantI S_ 32 0#32
  let main_v184 : IVec S16384 32 := broadcastInDim S16384 ![] bcast_S_S16384 main_c_44
  let main_v185 : IVec S16384 1 := cmpi .slt main_v177 main_v184
  let main_c_45 : IVec S_ 32 := constantI S_ 32 16384#32
  let main_v186 : IVec S16384 32 := broadcastInDim S16384 ![] bcast_S_S16384 main_c_45
  let main_v187 : IVec S16384 32 := addi main_v177 main_v186
  let main_v188 : IVec S16384 32 := select main_v185 main_v187 main_v177
  let main_v189 : IVec S16384x1 32 := broadcastInDim S16384x1 ![0] bcast_S16384_S16384x1_0 main_v183
  let main_v190 : IVec S16384x1 32 := broadcastInDim S16384x1 ![0] bcast_S16384_S16384x1_0 main_v188
  let main_v191 : IVec S16384x2 32 := (fun a b => concatenate S16384x2 1 [⟨S16384x1, a⟩, ⟨S16384x1, b⟩] concatenates_S16384x1_S16384x1_S16384x2_d1) main_v189 main_v190
  fn_part10 (F := F) main_v59 main_v176 main_v178 main_v191

def fn_part8 {F : FTy → Type} [FloatOps F] (main_arg8 : FVec F S256 .f32) (main_arg9 : FVec F S256 .f32) (main_arg10 : FVec F S256x128 .f32) (main_arg11 : FVec F S128 .f32) (main_v59 : IVec S_ 1) (main_v111 : FVec F S8192x128 .f32) (main_v146 : FVec F S8192x256 .f32) (main_v150 : FVec F S1x256 .f32) : IVec S16384 1 :=
  let main_v151 : FVec F S8192x256 .f32 := broadcastInDim S8192x256 ![0, 1] bcast_S1x256_S8192x256_0_1 main_v150
  let main_v152 : FVec F S8192x256 .f32 := mulf main_v146 main_v151
  let main_v153 : FVec F S1x256 .f32 := broadcastInDim S1x256 ![1] bcast_S256_S1x256_1 main_arg8
  let main_v154 : FVec F S8192x256 .f32 := broadcastInDim S8192x256 ![0, 1] bcast_S1x256_S8192x256_0_1 main_v153
  let main_v155 : FVec F S8192x256 .f32 := mulf main_v152 main_v154
  let main_v156 : FVec F S1x256 .f32 := broadcastInDim S1x256 ![1] bcast_S256_S1x256_1 main_arg9
  let main_v157 : FVec F S8192x256 .f32 := broadcastInDim S8192x256 ![0, 1] bcast_S1x256_S8192x256_0_1 main_v156
  let main_v158 : FVec F S8192x256 .f32 := addf main_v155 main_v157
  let main_v159 : FVec F S8192x256 .f32 := fn_relu (F := F) main_v158
  let main_v160 : FVec F S8192x128 .f32 := (fun l r => Host.dotGeneral dot_S8192x256_S256x128_S8192x128_1_0_0_1_n_n none l r) main_v159 main_arg10
  let main_v161 : FVec F S1x128 .f32 := broadcastInDim S1x128 ![1] bcast_S128_S1x128_1 main_arg11
  let main_v162 : FVec F S8192x128 .f32 := broadcastInDim S8192x128 ![0, 1] bcast_S1x128_S8192x128_0_1 main_v161
  let main_v163 : FVec F S8192x128 .f32 := addf main_v160 main_v162
  let main_v164 : FVec F S8192x1 .f32 := fn_norm (F := F) main_v111
  let main_cst_39 : FVec F S_ .f32 := constant S_ .f32 0x2B8CBCCC#32
  let main_v165 : FVec F S8192x1 .f32 := broadcastInDim S8192x1 ![] bcast_S_S8192x1 main_cst_39
  let main_v166 : FVec F S8192x1 .f32 := maximumf main_v164 main_v165
  let main_v167 : FVec F S8192x128 .f32 := broadcastInDim S8192x128 ![0, 1] bcast_S8192x1_S8192x128_0_1 main_v166
  let main_v168 : FVec F S8192x128 .f32 := Host.divf main_v111 main_v167
  let main_v169 : FVec F S8192x1 .f32 := fn_norm (F := F) main_v163
  let main_cst_40 : FVec F S_ .f32 := constant S_ .f32 0x2B8CBCCC#32
  let main_v170 : FVec F S8192x1 .f32 := broadcastInDim S8192x1 ![] bcast_S_S8192x1 main_cst_40
  let main_v171 : FVec F S8192x1 .f32 := maximumf main_v169 main_v170
  let main_v172 : FVec F S8192x128 .f32 := broadcastInDim S8192x128 ![0, 1] bcast_S8192x1_S8192x128_0_1 main_v171
  fn_part9 (F := F) main_v59 main_v163 main_v168 main_v172

def fn_part7 {F : FTy → Type} [FloatOps F] (main_arg5 : FVec F S256 .f32) (main_arg6 : FVec F S256x256 .f32) (main_arg7 : FVec F S256 .f32) (main_arg8 : FVec F S256 .f32) (main_arg9 : FVec F S256 .f32) (main_arg10 : FVec F S256x128 .f32) (main_arg11 : FVec F S128 .f32) (main_v59 : IVec S_ 1) (main_v111 : FVec F S8192x128 .f32) (main_v128 : FVec F S8192x256 .f32) (main_v130 : FVec F S8192x256 .f32) : IVec S16384 1 :=
  let main_v131 : FVec F S8192x256 .f32 := mulf main_v128 main_v130
  let main_v132 : FVec F S1x256 .f32 := broadcastInDim S1x256 ![1] bcast_S256_S1x256_1 main_arg5
  let main_v133 : FVec F S8192x256 .f32 := broadcastInDim S8192x256 ![0, 1] bcast_S1x256_S8192x256_0_1 main_v132
  let main_v134 : FVec F S8192x256 .f32 := addf main_v131 main_v133
  let main_v135 : FVec F S8192x256 .f32 := fn_relu (F := F) main_v134
  let main_v136 : FVec F S8192x256 .f32 := (fun l r => Host.dotGeneral dot_S8192x256_S256x256_S8192x256_1_0_0_1_n_n none l r) main_v135 main_arg6
  let main_v137 : FVec F S1x256 .f32 := broadcastInDim S1x256 ![1] bcast_S256_S1x256_1 main_arg7
  let main_v138 : FVec F S8192x256 .f32 := broadcastInDim S8192x256 ![0, 1] bcast_S1x256_S8192x256_0_1 main_v137
  let main_v139 : FVec F S8192x256 .f32 := addf main_v136 main_v138
  let main_cst_35 : FVec F S_ .f32 := constant S_ .f32 0x00000000#32
  let main_v140 : FVec F S256 .f32 := (fun x v => Host.reduceAdd x v reducesTo_S8192x256_S256_d0 h_S_) main_v139 main_cst_35
  let main_cst_36 : FVec F S_ .f32 := constant S_ .f32 0x46000000#32
  let main_v141 : FVec F S256 .f32 := broadcastInDim S256 ![] bcast_S_S256 main_cst_36
  let main_v142 : FVec F S256 .f32 := Host.divf main_v140 main_v141
  let main_c_37 : IVec S_ 32 := constantI S_ 32 0#32
  let main_v143 : FVec F S256 .f32 := fn_var (F := F) main_v139 main_c_37
  let main_v144 : FVec F S1x256 .f32 := broadcastInDim S1x256 ![1] bcast_S256_S1x256_1 main_v142
  let main_v145 : FVec F S8192x256 .f32 := broadcastInDim S8192x256 ![0, 1] bcast_S1x256_S8192x256_0_1 main_v144
  let main_v146 : FVec F S8192x256 .f32 := subf main_v139 main_v145
  let main_cst_38 : FVec F S_ .f32 := constant S_ .f32 0x3727C5AC#32
  let main_v147 : FVec F S256 .f32 := broadcastInDim S256 ![] bcast_S_S256 main_cst_38
  let main_v148 : FVec F S256 .f32 := addf main_v143 main_v147
  let main_v149 : FVec F S256 .f32 := Host.rsqrt main_v148
  let main_v150 : FVec F S1x256 .f32 := broadcastInDim S1x256 ![1] bcast_S256_S1x256_1 main_v149
  fn_part8 (F := F) main_arg8 main_arg9 main_arg10 main_arg11 main_v59 main_v111 main_v146 main_v150

def fn_part6 {F : FTy → Type} [FloatOps F] (main_arg1 : FVec F S8192x512 .f32) (main_arg2 : FVec F S512x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x128 .f32) (main_arg11 : FVec F S128 .f32) (main_v59 : IVec S_ 1) (main_v108 : FVec F S8192x128 .f32) (main_v110 : FVec F S8192x128 .f32) : IVec S16384 1 :=
  let main_v111 : FVec F S8192x128 .f32 := addf main_v108 main_v110
  let main_v112 : FVec F S8192x256 .f32 := (fun l r => Host.dotGeneral dot_S8192x512_S512x256_S8192x256_1_0_0_1_n_n none l r) main_arg1 main_arg2
  let main_v113 : FVec F S1x256 .f32 := broadcastInDim S1x256 ![1] bcast_S256_S1x256_1 main_arg3
  let main_v114 : FVec F S8192x256 .f32 := broadcastInDim S8192x256 ![0, 1] bcast_S1x256_S8192x256_0_1 main_v113
  let main_v115 : FVec F S8192x256 .f32 := addf main_v112 main_v114
  let main_cst_31 : FVec F S_ .f32 := constant S_ .f32 0x00000000#32
  let main_v116 : FVec F S256 .f32 := (fun x v => Host.reduceAdd x v reducesTo_S8192x256_S256_d0 h_S_) main_v115 main_cst_31
  let main_cst_32 : FVec F S_ .f32 := constant S_ .f32 0x46000000#32
  let main_v117 : FVec F S256 .f32 := broadcastInDim S256 ![] bcast_S_S256 main_cst_32
  let main_v118 : FVec F S256 .f32 := Host.divf main_v116 main_v117
  let main_c_33 : IVec S_ 32 := constantI S_ 32 0#32
  let main_v119 : FVec F S256 .f32 := fn_var (F := F) main_v115 main_c_33
  let main_v120 : FVec F S1x256 .f32 := broadcastInDim S1x256 ![1] bcast_S256_S1x256_1 main_v118
  let main_v121 : FVec F S8192x256 .f32 := broadcastInDim S8192x256 ![0, 1] bcast_S1x256_S8192x256_0_1 main_v120
  let main_v122 : FVec F S8192x256 .f32 := subf main_v115 main_v121
  let main_cst_34 : FVec F S_ .f32 := constant S_ .f32 0x3727C5AC#32
  let main_v123 : FVec F S256 .f32 := broadcastInDim S256 ![] bcast_S_S256 main_cst_34
  let main_v124 : FVec F S256 .f32 := addf main_v119 main_v123
  let main_v125 : FVec F S256 .f32 := Host.rsqrt main_v124
  let main_v126 : FVec F S1x256 .f32 := broadcastInDim S1x256 ![1] bcast_S256_S1x256_1 main_v125
  let main_v127 : FVec F S8192x256 .f32 := broadcastInDim S8192x256 ![0, 1] bcast_S1x256_S8192x256_0_1 main_v126
  let main_v128 : FVec F S8192x256 .f32 := mulf main_v122 main_v127
  let main_v129 : FVec F S1x256 .f32 := broadcastInDim S1x256 ![1] bcast_S256_S1x256_1 main_arg4
  let main_v130 : FVec F S8192x256 .f32 := broadcastInDim S8192x256 ![0, 1] bcast_S1x256_S8192x256_0_1 main_v129
  fn_part7 (F := F) main_arg5 main_arg6 main_arg7 main_arg8 main_arg9 main_arg10 main_arg11 main_v59 main_v111 main_v128 main_v130

def fn_part5 {F : FTy → Type} [FloatOps F] (main_arg1 : FVec F S8192x512 .f32) (main_arg2 : FVec F S512x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x128 .f32) (main_arg11 : FVec F S128 .f32) (main_v59 : IVec S_ 1) (main_v87 : FVec F S8192x256 .f32) (main_v88 : FVec F S256 .f32) (main_cst_28 : FVec F S_ .f32) : IVec S16384 1 :=
  let main_v89 : FVec F S256 .f32 := broadcastInDim S256 ![] bcast_S_S256 main_cst_28
  let main_v90 : FVec F S256 .f32 := Host.divf main_v88 main_v89
  let main_c_29 : IVec S_ 32 := constantI S_ 32 0#32
  let main_v91 : FVec F S256 .f32 := fn_var (F := F) main_v87 main_c_29
  let main_v92 : FVec F S1x256 .f32 := broadcastInDim S1x256 ![1] bcast_S256_S1x256_1 main_v90
  let main_v93 : FVec F S8192x256 .f32 := broadcastInDim S8192x256 ![0, 1] bcast_S1x256_S8192x256_0_1 main_v92
  let main_v94 : FVec F S8192x256 .f32 := subf main_v87 main_v93
  let main_cst_30 : FVec F S_ .f32 := constant S_ .f32 0x3727C5AC#32
  let main_v95 : FVec F S256 .f32 := broadcastInDim S256 ![] bcast_S_S256 main_cst_30
  let main_v96 : FVec F S256 .f32 := addf main_v91 main_v95
  let main_v97 : FVec F S256 .f32 := Host.rsqrt main_v96
  let main_v98 : FVec F S1x256 .f32 := broadcastInDim S1x256 ![1] bcast_S256_S1x256_1 main_v97
  let main_v99 : FVec F S8192x256 .f32 := broadcastInDim S8192x256 ![0, 1] bcast_S1x256_S8192x256_0_1 main_v98
  let main_v100 : FVec F S8192x256 .f32 := mulf main_v94 main_v99
  let main_v101 : FVec F S1x256 .f32 := broadcastInDim S1x256 ![1] bcast_S256_S1x256_1 main_arg8
  let main_v102 : FVec F S8192x256 .f32 := broadcastInDim S8192x256 ![0, 1] bcast_S1x256_S8192x256_0_1 main_v101
  let main_v103 : FVec F S8192x256 .f32 := mulf main_v100 main_v102
  let main_v104 : FVec F S1x256 .f32 := broadcastInDim S1x256 ![1] bcast_S256_S1x256_1 main_arg9
  let main_v105 : FVec F S8192x256 .f32 := broadcastInDim S8192x256 ![0, 1] bcast_S1x256_S8192x256_0_1 main_v104
  let main_v106 : FVec F S8192x256 .f32 := addf main_v103 main_v105
  let main_v107 : FVec F S8192x256 .f32 := fn_relu (F := F) main_v106
  let main_v108 : FVec F S8192x128 .f32 := (fun l r => Host.dotGeneral dot_S8192x256_S256x128_S8192x128_1_0_0_1_n_n none l r) main_v107 main_arg10
  let main_v109 : FVec F S1x128 .f32 := broadcastInDim S1x128 ![1] bcast_S128_S1x128_1 main_arg11
  let main_v110 : FVec F S8192x128 .f32 := broadcastInDim S8192x128 ![0, 1] bcast_S1x128_S8192x128_0_1 main_v109
  fn_part6 (F := F) main_arg1 main_arg2 main_arg3 main_arg4 main_arg5 main_arg6 main_arg7 main_arg8 main_arg9 main_arg10 main_arg11 main_v59 main_v108 main_v110

def fn_part4 {F : FTy → Type} [FloatOps F] (main_arg1 : FVec F S8192x512 .f32) (main_arg2 : FVec F S512x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x128 .f32) (main_arg11 : FVec F S128 .f32) (main_v59 : IVec S_ 1) (main_v63 : FVec F S8192x256 .f32) (main_v66 : FVec F S256 .f32) (main_v67 : FVec F S256 .f32) : IVec S16384 1 :=
  let main_v68 : FVec F S1x256 .f32 := broadcastInDim S1x256 ![1] bcast_S256_S1x256_1 main_v66
  let main_v69 : FVec F S8192x256 .f32 := broadcastInDim S8192x256 ![0, 1] bcast_S1x256_S8192x256_0_1 main_v68
  let main_v70 : FVec F S8192x256 .f32 := subf main_v63 main_v69
  let main_cst_26 : FVec F S_ .f32 := constant S_ .f32 0x3727C5AC#32
  let main_v71 : FVec F S256 .f32 := broadcastInDim S256 ![] bcast_S_S256 main_cst_26
  let main_v72 : FVec F S256 .f32 := addf main_v67 main_v71
  let main_v73 : FVec F S256 .f32 := Host.rsqrt main_v72
  let main_v74 : FVec F S1x256 .f32 := broadcastInDim S1x256 ![1] bcast_S256_S1x256_1 main_v73
  let main_v75 : FVec F S8192x256 .f32 := broadcastInDim S8192x256 ![0, 1] bcast_S1x256_S8192x256_0_1 main_v74
  let main_v76 : FVec F S8192x256 .f32 := mulf main_v70 main_v75
  let main_v77 : FVec F S1x256 .f32 := broadcastInDim S1x256 ![1] bcast_S256_S1x256_1 main_arg4
  let main_v78 : FVec F S8192x256 .f32 := broadcastInDim S8192x256 ![0, 1] bcast_S1x256_S8192x256_0_1 main_v77
  let main_v79 : FVec F S8192x256 .f32 := mulf main_v76 main_v78
  let main_v80 : FVec F S1x256 .f32 := broadcastInDim S1x256 ![1] bcast_S256_S1x256_1 main_arg5
  let main_v81 : FVec F S8192x256 .f32 := broadcastInDim S8192x256 ![0, 1] bcast_S1x256_S8192x256_0_1 main_v80
  let main_v82 : FVec F S8192x256 .f32 := addf main_v79 main_v81
  let main_v83 : FVec F S8192x256 .f32 := fn_relu (F := F) main_v82
  let main_v84 : FVec F S8192x256 .f32 := (fun l r => Host.dotGeneral dot_S8192x256_S256x256_S8192x256_1_0_0_1_n_n none l r) main_v83 main_arg6
  let main_v85 : FVec F S1x256 .f32 := broadcastInDim S1x256 ![1] bcast_S256_S1x256_1 main_arg7
  let main_v86 : FVec F S8192x256 .f32 := broadcastInDim S8192x256 ![0, 1] bcast_S1x256_S8192x256_0_1 main_v85
  let main_v87 : FVec F S8192x256 .f32 := addf main_v84 main_v86
  let main_cst_27 : FVec F S_ .f32 := constant S_ .f32 0x00000000#32
  let main_v88 : FVec F S256 .f32 := (fun x v => Host.reduceAdd x v reducesTo_S8192x256_S256_d0 h_S_) main_v87 main_cst_27
  let main_cst_28 : FVec F S_ .f32 := constant S_ .f32 0x46000000#32
  fn_part5 (F := F) main_arg1 main_arg2 main_arg3 main_arg4 main_arg5 main_arg6 main_arg7 main_arg8 main_arg9 main_arg10 main_arg11 main_v59 main_v87 main_v88 main_cst_28

def fn_part3 {F : FTy → Type} [FloatOps F] (main_arg0 : FVec F S8192x512 .f32) (main_arg1 : FVec F S8192x512 .f32) (main_arg2 : FVec F S512x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x128 .f32) (main_arg11 : FVec F S128 .f32) (main_v49 : IVec S_ 1) (main_v50 : FVec F S256x128 .f32) : IVec S16384 1 :=
  let main_cst_19 : FVec F S_ .f32 := constant S_ .f32 0x7F800000#32
  let main_v51 : FVec F S256x128 .f32 := broadcastInDim S256x128 ![] bcast_S_S256x128 main_cst_19
  let main_v52 : IVec S256x128 1 := cmpf .olt main_v50 main_v51
  let main_c_20 : IVec S_ 1 := constantI S_ 1 1#1
  let main_v53 : IVec S_ 1 := (fun x v => Host.reduce IntOp.andi x v reducesTo_S256x128_S_d0_1 h_S_) main_v52 main_c_20
  let main_v54 : IVec S_ 1 := andi main_v49 main_v53
  let main_v55 : FVec F S128 .f32 := Host.absf main_arg11
  let main_cst_21 : FVec F S_ .f32 := constant S_ .f32 0x7F800000#32
  let main_v56 : FVec F S128 .f32 := broadcastInDim S128 ![] bcast_S_S128 main_cst_21
  let main_v57 : IVec S128 1 := cmpf .olt main_v55 main_v56
  let main_c_22 : IVec S_ 1 := constantI S_ 1 1#1
  let main_v58 : IVec S_ 1 := (fun x v => Host.reduce IntOp.andi x v reducesTo_S128_S_d0 h_S_) main_v57 main_c_22
  let main_v59 : IVec S_ 1 := andi main_v54 main_v58
  let main_v60 : FVec F S8192x256 .f32 := (fun l r => Host.dotGeneral dot_S8192x512_S512x256_S8192x256_1_0_0_1_n_n none l r) main_arg0 main_arg2
  let main_v61 : FVec F S1x256 .f32 := broadcastInDim S1x256 ![1] bcast_S256_S1x256_1 main_arg3
  let main_v62 : FVec F S8192x256 .f32 := broadcastInDim S8192x256 ![0, 1] bcast_S1x256_S8192x256_0_1 main_v61
  let main_v63 : FVec F S8192x256 .f32 := addf main_v60 main_v62
  let main_cst_23 : FVec F S_ .f32 := constant S_ .f32 0x00000000#32
  let main_v64 : FVec F S256 .f32 := (fun x v => Host.reduceAdd x v reducesTo_S8192x256_S256_d0 h_S_) main_v63 main_cst_23
  let main_cst_24 : FVec F S_ .f32 := constant S_ .f32 0x46000000#32
  let main_v65 : FVec F S256 .f32 := broadcastInDim S256 ![] bcast_S_S256 main_cst_24
  let main_v66 : FVec F S256 .f32 := Host.divf main_v64 main_v65
  let main_c_25 : IVec S_ 32 := constantI S_ 32 0#32
  let main_v67 : FVec F S256 .f32 := fn_var (F := F) main_v63 main_c_25
  fn_part4 (F := F) main_arg1 main_arg2 main_arg3 main_arg4 main_arg5 main_arg6 main_arg7 main_arg8 main_arg9 main_arg10 main_arg11 main_v59 main_v63 main_v66 main_v67

def fn_part2 {F : FTy → Type} [FloatOps F] (main_arg0 : FVec F S8192x512 .f32) (main_arg1 : FVec F S8192x512 .f32) (main_arg2 : FVec F S512x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x128 .f32) (main_arg11 : FVec F S128 .f32) (main_v29 : IVec S_ 1) (main_v32 : IVec S256x256 1) (main_c_12 : IVec S_ 1) : IVec S16384 1 :=
  let main_v33 : IVec S_ 1 := (fun x v => Host.reduce IntOp.andi x v reducesTo_S256x256_S_d0_1 h_S_) main_v32 main_c_12
  let main_v34 : IVec S_ 1 := andi main_v29 main_v33
  let main_v35 : FVec F S256 .f32 := Host.absf main_arg7
  let main_cst_13 : FVec F S_ .f32 := constant S_ .f32 0x7F800000#32
  let main_v36 : FVec F S256 .f32 := broadcastInDim S256 ![] bcast_S_S256 main_cst_13
  let main_v37 : IVec S256 1 := cmpf .olt main_v35 main_v36
  let main_c_14 : IVec S_ 1 := constantI S_ 1 1#1
  let main_v38 : IVec S_ 1 := (fun x v => Host.reduce IntOp.andi x v reducesTo_S256_S_d0 h_S_) main_v37 main_c_14
  let main_v39 : IVec S_ 1 := andi main_v34 main_v38
  let main_v40 : FVec F S256 .f32 := Host.absf main_arg8
  let main_cst_15 : FVec F S_ .f32 := constant S_ .f32 0x7F800000#32
  let main_v41 : FVec F S256 .f32 := broadcastInDim S256 ![] bcast_S_S256 main_cst_15
  let main_v42 : IVec S256 1 := cmpf .olt main_v40 main_v41
  let main_c_16 : IVec S_ 1 := constantI S_ 1 1#1
  let main_v43 : IVec S_ 1 := (fun x v => Host.reduce IntOp.andi x v reducesTo_S256_S_d0 h_S_) main_v42 main_c_16
  let main_v44 : IVec S_ 1 := andi main_v39 main_v43
  let main_v45 : FVec F S256 .f32 := Host.absf main_arg9
  let main_cst_17 : FVec F S_ .f32 := constant S_ .f32 0x7F800000#32
  let main_v46 : FVec F S256 .f32 := broadcastInDim S256 ![] bcast_S_S256 main_cst_17
  let main_v47 : IVec S256 1 := cmpf .olt main_v45 main_v46
  let main_c_18 : IVec S_ 1 := constantI S_ 1 1#1
  let main_v48 : IVec S_ 1 := (fun x v => Host.reduce IntOp.andi x v reducesTo_S256_S_d0 h_S_) main_v47 main_c_18
  let main_v49 : IVec S_ 1 := andi main_v44 main_v48
  let main_v50 : FVec F S256x128 .f32 := Host.absf main_arg10
  fn_part3 (F := F) main_arg0 main_arg1 main_arg2 main_arg3 main_arg4 main_arg5 main_arg6 main_arg7 main_arg8 main_arg9 main_arg10 main_arg11 main_v49 main_v50

def fn_part1 {F : FTy → Type} [FloatOps F] (main_arg0 : FVec F S8192x512 .f32) (main_arg1 : FVec F S8192x512 .f32) (main_arg2 : FVec F S512x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x128 .f32) (main_arg11 : FVec F S128 .f32) (main_v14 : IVec S_ 1) (main_v15 : FVec F S256 .f32) (main_cst_5 : FVec F S_ .f32) : IVec S16384 1 :=
  let main_v16 : FVec F S256 .f32 := broadcastInDim S256 ![] bcast_S_S256 main_cst_5
  let main_v17 : IVec S256 1 := cmpf .olt main_v15 main_v16
  let main_c_6 : IVec S_ 1 := constantI S_ 1 1#1
  let main_v18 : IVec S_ 1 := (fun x v => Host.reduce IntOp.andi x v reducesTo_S256_S_d0 h_S_) main_v17 main_c_6
  let main_v19 : IVec S_ 1 := andi main_v14 main_v18
  let main_v20 : FVec F S256 .f32 := Host.absf main_arg4
  let main_cst_7 : FVec F S_ .f32 := constant S_ .f32 0x7F800000#32
  let main_v21 : FVec F S256 .f32 := broadcastInDim S256 ![] bcast_S_S256 main_cst_7
  let main_v22 : IVec S256 1 := cmpf .olt main_v20 main_v21
  let main_c_8 : IVec S_ 1 := constantI S_ 1 1#1
  let main_v23 : IVec S_ 1 := (fun x v => Host.reduce IntOp.andi x v reducesTo_S256_S_d0 h_S_) main_v22 main_c_8
  let main_v24 : IVec S_ 1 := andi main_v19 main_v23
  let main_v25 : FVec F S256 .f32 := Host.absf main_arg5
  let main_cst_9 : FVec F S_ .f32 := constant S_ .f32 0x7F800000#32
  let main_v26 : FVec F S256 .f32 := broadcastInDim S256 ![] bcast_S_S256 main_cst_9
  let main_v27 : IVec S256 1 := cmpf .olt main_v25 main_v26
  let main_c_10 : IVec S_ 1 := constantI S_ 1 1#1
  let main_v28 : IVec S_ 1 := (fun x v => Host.reduce IntOp.andi x v reducesTo_S256_S_d0 h_S_) main_v27 main_c_10
  let main_v29 : IVec S_ 1 := andi main_v24 main_v28
  let main_v30 : FVec F S256x256 .f32 := Host.absf main_arg6
  let main_cst_11 : FVec F S_ .f32 := constant S_ .f32 0x7F800000#32
  let main_v31 : FVec F S256x256 .f32 := broadcastInDim S256x256 ![] bcast_S_S256x256 main_cst_11
  let main_v32 : IVec S256x256 1 := cmpf .olt main_v30 main_v31
  let main_c_12 : IVec S_ 1 := constantI S_ 1 1#1
  fn_part2 (F := F) main_arg0 main_arg1 main_arg2 main_arg3 main_arg4 main_arg5 main_arg6 main_arg7 main_arg8 main_arg9 main_arg10 main_arg11 main_v29 main_v32 main_c_12

def fn {F : FTy → Type} [FloatOps F] (main_arg0 : FVec F S8192x512 .f32) (main_arg1 : FVec F S8192x512 .f32) (main_arg2 : FVec F S512x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x128 .f32) (main_arg11 : FVec F S128 .f32) : IVec S16384 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_c_0 : IVec S_ 1 := constantI S_ 1 1#1
  let main_v4 : IVec S_ 1 := andi main_c_0 main_v3
  let main_v5 : FVec F S8192x512 .f32 := Host.absf main_arg1
  let main_cst_1 : FVec F S_ .f32 := constant S_ .f32 0x7F800000#32
  let main_v6 : FVec F S8192x512 .f32 := broadcastInDim S8192x512 ![] bcast_S_S8192x512 main_cst_1
  let main_v7 : IVec S8192x512 1 := cmpf .olt main_v5 main_v6
  let main_c_2 : IVec S_ 1 := constantI S_ 1 1#1
  let main_v8 : IVec S_ 1 := (fun x v => Host.reduce IntOp.andi x v reducesTo_S8192x512_S_d0_1 h_S_) main_v7 main_c_2
  let main_v9 : IVec S_ 1 := andi main_v4 main_v8
  let main_v10 : FVec F S512x256 .f32 := Host.absf main_arg2
  let main_cst_3 : FVec F S_ .f32 := constant S_ .f32 0x7F800000#32
  let main_v11 : FVec F S512x256 .f32 := broadcastInDim S512x256 ![] bcast_S_S512x256 main_cst_3
  let main_v12 : IVec S512x256 1 := cmpf .olt main_v10 main_v11
  let main_c_4 : IVec S_ 1 := constantI S_ 1 1#1
  let main_v13 : IVec S_ 1 := (fun x v => Host.reduce IntOp.andi x v reducesTo_S512x256_S_d0_1 h_S_) main_v12 main_c_4
  let main_v14 : IVec S_ 1 := andi main_v9 main_v13
  let main_v15 : FVec F S256 .f32 := Host.absf main_arg3
  let main_cst_5 : FVec F S_ .f32 := constant S_ .f32 0x7F800000#32
  fn_part1 (F := F) main_arg0 main_arg1 main_arg2 main_arg3 main_arg4 main_arg5 main_arg6 main_arg7 main_arg8 main_arg9 main_arg10 main_arg11 main_v14 main_v15 main_cst_5
-- ==== Kernel.lean ====
abbrev S8192x512 : Shape := ⟨2, ![8192, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x256 : Shape := ⟨2, ![1, 256]⟩
abbrev S1x128 : Shape := ⟨2, ![1, 128]⟩
abbrev S2048x512 : Shape := ⟨2, ![2048, 512]⟩
abbrev S4x2048x256 : Shape := ⟨3, ![4, 2048, 256]⟩
abbrev S2x4x2048x128 : Shape := ⟨4, ![2, 4, 2048, 128]⟩
abbrev S2x256 : Shape := ⟨2, ![2, 256]⟩
abbrev S2048x256 : Shape := ⟨2, ![2048, 256]⟩
abbrev S2048x128 : Shape := ⟨2, ![2048, 128]⟩
abbrev S1x2048x128 : Shape := ⟨3, ![1, 2048, 128]⟩
abbrev S1x2048x256 : Shape := ⟨3, ![1, 2048, 256]⟩
abbrev S2048 : Shape := ⟨1, ![2048]⟩
abbrev S2048x1 : Shape := ⟨2, ![2048, 1]⟩
abbrev S1x1x2048x128 : Shape := ⟨4, ![1, 1, 2048, 128]⟩
abbrev S1 : Shape := ⟨1, ![1]⟩
abbrev S1x1 : Shape := ⟨2, ![1, 1]⟩
abbrev S_ : Shape := ⟨0, ![]⟩

abbrev nBuf : Space → Nat
  | .hbm => 25
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S512x256, .bf16⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S256x256, .bf16⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S256x128, .bf16⟩
  | .hbm, ⟨21, _⟩ => ⟨S1x128, .f32⟩
  | .hbm, ⟨22, _⟩ => ⟨S1x128, .f32⟩
  | .hbm, ⟨23, _⟩ => ⟨S1x1, .f32⟩
  | .hbm, ⟨24, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x256, .bf16⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S256x128, .bf16⟩
  | .local _ .vmem, ⟨13, _⟩ => ⟨S1x128, .f32⟩
  | .local _ .vmem, ⟨14, _⟩ => ⟨S1x128, .f32⟩
  | .local _ .vmem, ⟨15, _⟩ => ⟨S4x2048x256, .f32⟩
  | .local _ .vmem, ⟨16, _⟩ => ⟨S2x4x2048x128, .f32⟩
  | .local _ .vmem, ⟨17, _⟩ => ⟨S2x256, .f32⟩
  | .local _ .vmem, ⟨18, _⟩ => ⟨S2x256, .f32⟩
  | .local _ .vmem, ⟨19, _⟩ => ⟨S1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c0_i32_6 : BitVec 32 := 0#32
  let v18 : BitVec 1 := Scalar.cmpi .eq arg0 c0_i32_6
  let v19 : BitVec 32 := Scalar.extui v18
  let c0_i32_7 : BitVec 32 := 0#32
  let v20 : BitVec 1 := Scalar.cmpi .ne v19 c0_i32_7
  v20

def k0_off1 (i : grid0.Coords) : Fin 3 → Nat :=
  let arg1 : BitVec 32 := BitVec.ofNat 32 (i 1).val
  let v34 : Index := Scalar.indexCast arg1
  let c0_15 : Index := 0#32
  let c0_16 : Index := 0#32
  ![v34.toNat, 0, 0]
def k0_off2 (i : grid0.Coords) : Fin 3 → Nat :=
  let arg1 : BitVec 32 := BitVec.ofNat 32 (i 1).val
  let v39 : Index := Scalar.indexCast arg1
  let c0_17 : Index := 0#32
  let c128 : Index := 128#32
  ![v39.toNat, 0, 128]
def k0_cond5 (i : grid0.Coords) : BitVec 1 :=
  let arg0 : BitVec 32 := BitVec.ofNat 32 (i 0).val
  let c1_i32_8 : BitVec 32 := 1#32
  let v21 : BitVec 1 := Scalar.cmpi .eq arg0 c1_i32_8
  let v22 : BitVec 32 := Scalar.extui v21
  let c0_i32_9 : BitVec 32 := 0#32
  let v23 : BitVec 1 := Scalar.cmpi .ne v22 c0_i32_9
  v23

def k0_off3 (i : grid0.Coords) : Fin 3 → Nat :=
  let arg1 : BitVec 32 := BitVec.ofNat 32 (i 1).val
  let v34 : Index := Scalar.indexCast arg1
  let c0_15 : Index := 0#32
  let c0_16 : Index := 0#32
  ![v34.toNat, 0, 0]
def k0_off4 (i : grid0.Coords) : Fin 3 → Nat :=
  let arg1 : BitVec 32 := BitVec.ofNat 32 (i 1).val
  let v39 : Index := Scalar.indexCast arg1
  let c0_17 : Index := 0#32
  let c128 : Index := 128#32
  ![v39.toNat, 0, 128]
def k0_cond8 (i : grid0.Coords) : BitVec 1 :=
  let arg1 : BitVec 32 := BitVec.ofNat 32 (i 1).val
  let c4_i32_0 : BitVec 32 := 4#32
  let v3 : BitVec 1 := Scalar.cmpi .sge arg1 c4_i32_0
  let c8_i32 : BitVec 32 := 8#32
  let v4 : BitVec 1 := Scalar.cmpi .slt arg1 c8_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off5 (i : grid0.Coords) : Fin 3 → Nat :=
  let arg1 : BitVec 32 := BitVec.ofNat 32 (i 1).val
  let c4_i32_6 : BitVec 32 := 4#32
  let v18 : BitVec 32 := Scalar.subi arg1 c4_i32_6
  let v19 : Index := Scalar.indexCast v18
  let c0 : Index := 0#32
  let c0_7 : Index := 0#32
  ![v19.toNat, 0, 0]
def k0_off6 (i : grid0.Coords) : Fin 3 → Nat :=
  let arg1 : BitVec 32 := BitVec.ofNat 32 (i 1).val
  let c4_i32_6 : BitVec 32 := 4#32
  let v18 : BitVec 32 := Scalar.subi arg1 c4_i32_6
  let v56 : Index := Scalar.indexCast v18
  let c0_22 : Index := 0#32
  let c0_23 : Index := 0#32
  ![v56.toNat, 0, 0]
def k0_off7 (i : grid0.Coords) : Fin 3 → Nat :=
  let arg1 : BitVec 32 := BitVec.ofNat 32 (i 1).val
  let c4_i32_6 : BitVec 32 := 4#32
  let v18 : BitVec 32 := Scalar.subi arg1 c4_i32_6
  let v61 : Index := Scalar.indexCast v18
  let c0_24 : Index := 0#32
  let c128 : Index := 128#32
  ![v61.toNat, 0, 128]
def k0_cond11 (i : grid0.Coords) : BitVec 1 :=
  let arg1 : BitVec 32 := BitVec.ofNat 32 (i 1).val
  let c8_i32_2 : BitVec 32 := 8#32
  let v8 : BitVec 1 := Scalar.cmpi .sge arg1 c8_i32_2
  let c12_i32 : BitVec 32 := 12#32
  let v9 : BitVec 1 := Scalar.cmpi .slt arg1 c12_i32
  let v10 : BitVec 1 := Scalar.andi v8 v9
  let v11 : BitVec 32 := Scalar.extui v10
  let c0_i32_3 : BitVec 32 := 0#32
  let v12 : BitVec 1 := Scalar.cmpi .ne v11 c0_i32_3
  v12

def k0_off8 (i : grid0.Coords) : Fin 3 → Nat :=
  let arg1 : BitVec 32 := BitVec.ofNat 32 (i 1).val
  let c8_i32_6 : BitVec 32 := 8#32
  let v18 : BitVec 32 := Scalar.subi arg1 c8_i32_6
  let v19 : Index := Scalar.indexCast v18
  let c0 : Index := 0#32
  let c0_7 : Index := 0#32
  ![v19.toNat, 0, 0]
def k0_off9 (i : grid0.Coords) : Fin 4 → Nat :=
  let arg0 : BitVec 32 := BitVec.ofNat 32 (i 0).val
  let v63 : Index := Scalar.indexCast arg0
  let arg1 : BitVec 32 := BitVec.ofNat 32 (i 1).val
  let c8_i32_6 : BitVec 32 := 8#32
  let v18 : BitVec 32 := Scalar.subi arg1 c8_i32_6
  let v64 : Index := Scalar.indexCast v18
  let c0_24 : Index := 0#32
  let c0_25 : Index := 0#32
  ![v63.toNat, v64.toNat, 0, 0]
def k0_cond14 (i : grid0.Coords) : BitVec 1 :=
  let arg0 : BitVec 32 := BitVec.ofNat 32 (i 0).val
  let c1_i32 : BitVec 32 := 1#32
  let v13 : BitVec 1 := Scalar.cmpi .eq arg0 c1_i32
  let arg1 : BitVec 32 := BitVec.ofNat 32 (i 1).val
  let c12_i32_4 : BitVec 32 := 12#32
  let v14 : BitVec 1 := Scalar.cmpi .sge arg1 c12_i32_4
  let v15 : BitVec 1 := Scalar.andi v13 v14
  let v16 : BitVec 32 := Scalar.extui v15
  let c0_i32_5 : BitVec 32 := 0#32
  let v17 : BitVec 1 := Scalar.cmpi .ne v16 c0_i32_5
  v17

def k0_off10 (i : grid0.Coords) : Fin 4 → Nat :=
  let c0 : Index := 0#32
  let arg1 : BitVec 32 := BitVec.ofNat 32 (i 1).val
  let c12_i32_6 : BitVec 32 := 12#32
  let v18 : BitVec 32 := Scalar.subi arg1 c12_i32_6
  let v19 : Index := Scalar.indexCast v18
  let c0_7 : Index := 0#32
  let c0_8 : Index := 0#32
  ![0, v19.toNat, 0, 0]
def k0_off11 (i : grid0.Coords) : Fin 4 → Nat :=
  let c1 : Index := 1#32
  let arg1 : BitVec 32 := BitVec.ofNat 32 (i 1).val
  let c12_i32_6 : BitVec 32 := 12#32
  let v18 : BitVec 32 := Scalar.subi arg1 c12_i32_6
  let v22 : Index := Scalar.indexCast v18
  let c0_9 : Index := 0#32
  let c0_10 : Index := 0#32
  ![1, v22.toNat, 0, 0]
def k0_cond15 (i : grid0.Coords) : BitVec 1 :=
  let arg1 : BitVec 32 := BitVec.ofNat 32 (i 1).val
  let c12_i32_6 : BitVec 32 := 12#32
  let v18 : BitVec 32 := Scalar.subi arg1 c12_i32_6
  let c0_i32_20 : BitVec 32 := 0#32
  let v55 : BitVec 1 := Scalar.cmpi .eq v18 c0_i32_20
  let v56 : BitVec 32 := Scalar.extui v55
  let c0_i32_21 : BitVec 32 := 0#32
  let v57 : BitVec 1 := Scalar.cmpi .ne v56 c0_i32_21
  v57

def k0_cond16 (i : grid0.Coords) : BitVec 1 :=
  let arg1 : BitVec 32 := BitVec.ofNat 32 (i 1).val
  let c12_i32_6 : BitVec 32 := 12#32
  let v18 : BitVec 32 := Scalar.subi arg1 c12_i32_6
  let c0_i32_22 : BitVec 32 := 0#32
  let v58 : BitVec 1 := Scalar.cmpi .ne v18 c0_i32_22
  let v59 : BitVec 32 := Scalar.extui v58
  let c0_i32_23 : BitVec 32 := 0#32
  let v60 : BitVec 1 := Scalar.cmpi .ne v59 c0_i32_23
  v60

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c3_i32 : BitVec 32 := 3#32
  let v1 : BitVec 32 := Scalar.minsi arg1 c3_i32
  let v2 : BitVec 32 := Scalar.muli v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let v1 : BitVec 32 := Scalar.muli arg0 v0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== KernelIdeal.lean ====
variable {F : FTy → Type} [FloatOps F] [Named F]
def κ : String → Option EReal := fun
  | "inv_temp" => some ((134217728 / 9395241 : ℝ) : EReal)
  | "tiny_sq" => some ((5316911940649 / 5316911983139663491615228241121378304 : ℝ) : EReal)
  | "two_inv_temp" => some ((268435456 / 9395241 : ℝ) : EReal)
  | _ => none
-- ==== ReferenceIdeal.lean ====
abbrev S8192x512 : Shape := ⟨2, ![8192, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S8192x256 : Shape := ⟨2, ![8192, 256]⟩
abbrev S1x256 : Shape := ⟨2, ![1, 256]⟩
abbrev S_ : Shape := ⟨0, ![]⟩
abbrev S8192x128 : Shape := ⟨2, ![8192, 128]⟩
abbrev S1x128 : Shape := ⟨2, ![1, 128]⟩
abbrev S8192 : Shape := ⟨1, ![8192]⟩
abbrev S8192x1 : Shape := ⟨2, ![8192, 1]⟩
abbrev S16384x128 : Shape := ⟨2, ![16384, 128]⟩
abbrev S128x16384 : Shape := ⟨2, ![128, 16384]⟩
abbrev S16384x16384 : Shape := ⟨2, ![16384, 16384]⟩
abbrev S8192x2 : Shape := ⟨2, ![8192, 2]⟩
abbrev S16384 : Shape := ⟨1, ![16384]⟩
abbrev S16384x1 : Shape := ⟨2, ![16384, 1]⟩
abbrev S16384x2 : Shape := ⟨2, ![16384, 2]⟩

abbrev nBuf : Space → Nat
  | .hbm => 327
  | .vmem => 0
  | .smem => 0
  | _ => 0

abbrev hbmTy0_0 (i : Nat) : BufTy := match i % 128 with
  | 0 => ⟨S8192x512, .f32⟩
  | 1 => ⟨S8192x512, .f32⟩
  | 2 => ⟨S512x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S256x128, .f32⟩
  | 11 => ⟨S128, .f32⟩
  | 12 => ⟨S8192x256, .f32⟩
  | 13 => ⟨S1x256, .f32⟩
  | 14 => ⟨S8192x256, .f32⟩
  | 15 => ⟨S8192x256, .f32⟩
  | 16 => ⟨S_, .f32⟩
  | 17 => ⟨S256, .f32⟩
  | 18 => ⟨S_, .f32⟩
  | 19 => ⟨S256, .f32⟩
  | 20 => ⟨S256, .f32⟩
  | 21 => ⟨S_, .i32⟩
  | 22 => ⟨S_, .f32⟩
  | 23 => ⟨S256, .f32⟩
  | 24 => ⟨S1x256, .f32⟩
  | 25 => ⟨S_, .f32⟩
  | 26 => ⟨S1x256, .f32⟩
  | 27 => ⟨S1x256, .f32⟩
  | 28 => ⟨S8192x256, .f32⟩
  | 29 => ⟨S8192x256, .f32⟩
  | 30 => ⟨S8192x256, .f32⟩
  | 31 => ⟨S_, .f32⟩
  | 32 => ⟨S_, .f32⟩
  | 33 => ⟨S_, .f32⟩
  | 34 => ⟨S_, .f32⟩
  | 35 => ⟨S256, .f32⟩
  | 36 => ⟨S256, .f32⟩
  | 37 => ⟨S256, .f32⟩
  | 38 => ⟨S_, .f32⟩
  | 39 => ⟨S_, .i1⟩
  | 40 => ⟨S_, .f32⟩
  | 41 => ⟨S_, .f32⟩
  | 42 => ⟨S256, .f32⟩
  | 43 => ⟨S256, .f32⟩
  | 44 => ⟨S1x256, .f32⟩
  | 45 => ⟨S8192x256, .f32⟩
  | 46 => ⟨S8192x256, .f32⟩
  | 47 => ⟨S_, .f32⟩
  | 48 => ⟨S256, .f32⟩
  | 49 => ⟨S256, .f32⟩
  | 50 => ⟨S256, .f32⟩
  | 51 => ⟨S1x256, .f32⟩
  | 52 => ⟨S8192x256, .f32⟩
  | 53 => ⟨S8192x256, .f32⟩
  | 54 => ⟨S1x256, .f32⟩
  | 55 => ⟨S8192x256, .f32⟩
  | 56 => ⟨S8192x256, .f32⟩
  | 57 => ⟨S1x256, .f32⟩
  | 58 => ⟨S8192x256, .f32⟩
  | 59 => ⟨S8192x256, .f32⟩
  | 60 => ⟨S_, .f32⟩
  | 61 => ⟨S8192x256, .f32⟩
  | 62 => ⟨S8192x256, .f32⟩
  | 63 => ⟨S8192x256, .f32⟩
  | 64 => ⟨S1x256, .f32⟩
  | 65 => ⟨S8192x256, .f32⟩
  | 66 => ⟨S8192x256, .f32⟩
  | 67 => ⟨S_, .f32⟩
  | 68 => ⟨S256, .f32⟩
  | 69 => ⟨S_, .f32⟩
  | 70 => ⟨S256, .f32⟩
  | 71 => ⟨S256, .f32⟩
  | 72 => ⟨S_, .i32⟩
  | 73 => ⟨S_, .f32⟩
  | 74 => ⟨S256, .f32⟩
  | 75 => ⟨S1x256, .f32⟩
  | 76 => ⟨S_, .f32⟩
  | 77 => ⟨S1x256, .f32⟩
  | 78 => ⟨S1x256, .f32⟩
  | 79 => ⟨S8192x256, .f32⟩
  | 80 => ⟨S8192x256, .f32⟩
  | 81 => ⟨S8192x256, .f32⟩
  | 82 => ⟨S_, .f32⟩
  | 83 => ⟨S_, .f32⟩
  | 84 => ⟨S_, .f32⟩
  | 85 => ⟨S_, .f32⟩
  | 86 => ⟨S256, .f32⟩
  | 87 => ⟨S256, .f32⟩
  | 88 => ⟨S256, .f32⟩
  | 89 => ⟨S_, .f32⟩
  | 90 => ⟨S_, .i1⟩
  | 91 => ⟨S_, .f32⟩
  | 92 => ⟨S_, .f32⟩
  | 93 => ⟨S256, .f32⟩
  | 94 => ⟨S256, .f32⟩
  | 95 => ⟨S1x256, .f32⟩
  | 96 => ⟨S8192x256, .f32⟩
  | 97 => ⟨S8192x256, .f32⟩
  | 98 => ⟨S_, .f32⟩
  | 99 => ⟨S256, .f32⟩
  | 100 => ⟨S256, .f32⟩
  | 101 => ⟨S256, .f32⟩
  | 102 => ⟨S1x256, .f32⟩
  | 103 => ⟨S8192x256, .f32⟩
  | 104 => ⟨S8192x256, .f32⟩
  | 105 => ⟨S1x256, .f32⟩
  | 106 => ⟨S8192x256, .f32⟩
  | 107 => ⟨S8192x256, .f32⟩
  | 108 => ⟨S1x256, .f32⟩
  | 109 => ⟨S8192x256, .f32⟩
  | 110 => ⟨S8192x256, .f32⟩
  | 111 => ⟨S_, .f32⟩
  | 112 => ⟨S8192x256, .f32⟩
  | 113 => ⟨S8192x256, .f32⟩
  | 114 => ⟨S8192x128, .f32⟩
  | 115 => ⟨S1x128, .f32⟩
  | 116 => ⟨S8192x128, .f32⟩
  | 117 => ⟨S8192x128, .f32⟩
  | 118 => ⟨S8192x256, .f32⟩
  | 119 => ⟨S1x256, .f32⟩
  | 120 => ⟨S8192x256, .f32⟩
  | 121 => ⟨S8192x256, .f32⟩
  | 122 => ⟨S_, .f32⟩
  | 123 => ⟨S256, .f32⟩
  | 124 => ⟨S_, .f32⟩
  | 125 => ⟨S256, .f32⟩
  | 126 => ⟨S256, .f32⟩
  | 127 => ⟨S_, .i32⟩
  | _ => ⟨S8192x512, .f32⟩

abbrev hbmTy0_1 (i : Nat) : BufTy := match i % 128 with
  | 0 => ⟨S_, .f32⟩
  | 1 => ⟨S256, .f32⟩
  | 2 => ⟨S1x256, .f32⟩
  | 3 => ⟨S_, .f32⟩
  | 4 => ⟨S1x256, .f32⟩
  | 5 => ⟨S1x256, .f32⟩
  | 6 => ⟨S8192x256, .f32⟩
  | 7 => ⟨S8192x256, .f32⟩
  | 8 => ⟨S8192x256, .f32⟩
  | 9 => ⟨S_, .f32⟩
  | 10 => ⟨S_, .f32⟩
  | 11 => ⟨S_, .f32⟩
  | 12 => ⟨S_, .f32⟩
  | 13 => ⟨S256, .f32⟩
  | 14 => ⟨S256, .f32⟩
  | 15 => ⟨S256, .f32⟩
  | 16 => ⟨S_, .f32⟩
  | 17 => ⟨S_, .i1⟩
  | 18 => ⟨S_, .f32⟩
  | 19 => ⟨S_, .f32⟩
  | 20 => ⟨S256, .f32⟩
  | 21 => ⟨S256, .f32⟩
  | 22 => ⟨S1x256, .f32⟩
  | 23 => ⟨S8192x256, .f32⟩
  | 24 => ⟨S8192x256, .f32⟩
  | 25 => ⟨S_, .f32⟩
  | 26 => ⟨S256, .f32⟩
  | 27 => ⟨S256, .f32⟩
  | 28 => ⟨S256, .f32⟩
  | 29 => ⟨S1x256, .f32⟩
  | 30 => ⟨S8192x256, .f32⟩
  | 31 => ⟨S8192x256, .f32⟩
  | 32 => ⟨S1x256, .f32⟩
  | 33 => ⟨S8192x256, .f32⟩
  | 34 => ⟨S8192x256, .f32⟩
  | 35 => ⟨S1x256, .f32⟩
  | 36 => ⟨S8192x256, .f32⟩
  | 37 => ⟨S8192x256, .f32⟩
  | 38 => ⟨S_, .f32⟩
  | 39 => ⟨S8192x256, .f32⟩
  | 40 => ⟨S8192x256, .f32⟩
  | 41 => ⟨S8192x256, .f32⟩
  | 42 => ⟨S1x256, .f32⟩
  | 43 => ⟨S8192x256, .f32⟩
  | 44 => ⟨S8192x256, .f32⟩
  | 45 => ⟨S_, .f32⟩
  | 46 => ⟨S256, .f32⟩
  | 47 => ⟨S_, .f32⟩
  | 48 => ⟨S256, .f32⟩
  | 49 => ⟨S256, .f32⟩
  | 50 => ⟨S_, .i32⟩
  | 51 => ⟨S_, .f32⟩
  | 52 => ⟨S256, .f32⟩
  | 53 => ⟨S1x256, .f32⟩
  | 54 => ⟨S_, .f32⟩
  | 55 => ⟨S1x256, .f32⟩
  | 56 => ⟨S1x256, .f32⟩
  | 57 => ⟨S8192x256, .f32⟩
  | 58 => ⟨S8192x256, .f32⟩
  | 59 => ⟨S8192x256, .f32⟩
  | 60 => ⟨S_, .f32⟩
  | 61 => ⟨S_, .f32⟩
  | 62 => ⟨S_, .f32⟩
  | 63 => ⟨S_, .f32⟩
  | 64 => ⟨S256, .f32⟩
  | 65 => ⟨S256, .f32⟩
  | 66 => ⟨S256, .f32⟩
  | 67 => ⟨S_, .f32⟩
  | 68 => ⟨S_, .i1⟩
  | 69 => ⟨S_, .f32⟩
  | 70 => ⟨S_, .f32⟩
  | 71 => ⟨S256, .f32⟩
  | 72 => ⟨S256, .f32⟩
  | 73 => ⟨S1x256, .f32⟩
  | 74 => ⟨S8192x256, .f32⟩
  | 75 => ⟨S8192x256, .f32⟩
  | 76 => ⟨S_, .f32⟩
  | 77 => ⟨S256, .f32⟩
  | 78 => ⟨S256, .f32⟩
  | 79 => ⟨S256, .f32⟩
  | 80 => ⟨S1x256, .f32⟩
  | 81 => ⟨S8192x256, .f32⟩
  | 82 => ⟨S8192x256, .f32⟩
  | 83 => ⟨S1x256, .f32⟩
  | 84 => ⟨S8192x256, .f32⟩
  | 85 => ⟨S8192x256, .f32⟩
  | 86 => ⟨S1x256, .f32⟩
  | 87 => ⟨S8192x256, .f32⟩
  | 88 => ⟨S8192x256, .f32⟩
  | 89 => ⟨S_, .f32⟩
  | 90 => ⟨S8192x256, .f32⟩
  | 91 => ⟨S8192x256, .f32⟩
  | 92 => ⟨S8192x128, .f32⟩
  | 93 => ⟨S1x128, .f32⟩
  | 94 => ⟨S8192x128, .f32⟩
  | 95 => ⟨S8192x128, .f32⟩
  | 96 => ⟨S8192x128, .f32⟩
  | 97 => ⟨S_, .f32⟩
  | 98 => ⟨S8192, .f32⟩
  | 99 => ⟨S8192x1, .f32⟩
  | 100 => ⟨S8192x1, .f32⟩
  | 101 => ⟨S_, .f32⟩
  | 102 => ⟨S8192x1, .f32⟩
  | 103 => ⟨S8192x1, .f32⟩
  | 104 => ⟨S8192x128, .f32⟩
  | 105 => ⟨S8192x128, .f32⟩
  | 106 => ⟨S8192x128, .f32⟩
  | 107 => ⟨S_, .f32⟩
  | 108 => ⟨S8192, .f32⟩
  | 109 => ⟨S8192x1, .f32⟩
  | 110 => ⟨S8192x1, .f32⟩
  | 111 => ⟨S_, .f32⟩
  | 112 => ⟨S8192x1, .f32⟩
  | 113 => ⟨S8192x1, .f32⟩
  | 114 => ⟨S8192x128, .f32⟩
  | 115 => ⟨S8192x128, .f32⟩
  | 116 => ⟨S16384x128, .f32⟩
  | 117 => ⟨S128x16384, .f32⟩
  | 118 => ⟨S16384x16384, .f32⟩
  | 119 => ⟨S8192, .i32⟩
  | 120 => ⟨S_, .i32⟩
  | 121 => ⟨S8192, .i32⟩
  | 122 => ⟨S8192, .i32⟩
  | 123 => ⟨S_, .i32⟩
  | 124 => ⟨S8192, .i32⟩
  | 125 => ⟨S8192, .i1⟩
  | 126 => ⟨S_, .i32⟩
  | 127 => ⟨S8192, .i32⟩
  | _ => ⟨S8192x512, .f32⟩

abbrev hbmTy0_2 (i : Nat) : BufTy := match i % 128 with
  | 0 => ⟨S8192, .i32⟩
  | 1 => ⟨S8192, .i32⟩
  | 2 => ⟨S_, .i32⟩
  | 3 => ⟨S8192, .i32⟩
  | 4 => ⟨S8192, .i1⟩
  | 5 => ⟨S_, .i32⟩
  | 6 => ⟨S8192, .i32⟩
  | 7 => ⟨S8192, .i32⟩
  | 8 => ⟨S8192, .i32⟩
  | 9 => ⟨S8192x1, .i32⟩
  | 10 => ⟨S8192x1, .i32⟩
  | 11 => ⟨S8192x2, .i32⟩
  | 12 => ⟨S8192, .f32⟩
  | 13 => ⟨S_, .i32⟩
  | 14 => ⟨S8192, .i32⟩
  | 15 => ⟨S8192, .i32⟩
  | 16 => ⟨S_, .i32⟩
  | 17 => ⟨S8192, .i32⟩
  | 18 => ⟨S8192, .i1⟩
  | 19 => ⟨S_, .i32⟩
  | 20 => ⟨S8192, .i32⟩
  | 21 => ⟨S8192, .i32⟩
  | 22 => ⟨S8192, .i32⟩
  | 23 => ⟨S_, .i32⟩
  | 24 => ⟨S8192, .i32⟩
  | 25 => ⟨S8192, .i1⟩
  | 26 => ⟨S_, .i32⟩
  | 27 => ⟨S8192, .i32⟩
  | 28 => ⟨S8192, .i32⟩
  | 29 => ⟨S8192, .i32⟩
  | 30 => ⟨S8192x1, .i32⟩
  | 31 => ⟨S8192x1, .i32⟩
  | 32 => ⟨S8192x2, .i32⟩
  | 33 => ⟨S8192, .f32⟩
  | 34 => ⟨S16384, .f32⟩
  | 35 => ⟨S_, .f32⟩
  | 36 => ⟨S16384, .f32⟩
  | 37 => ⟨S16384, .f32⟩
  | 38 => ⟨S16384, .f32⟩
  | 39 => ⟨S16384, .i32⟩
  | 40 => ⟨S_, .f32⟩
  | 41 => ⟨S16384, .f32⟩
  | 42 => ⟨S_, .i32⟩
  | 43 => ⟨S16384, .i32⟩
  | 44 => ⟨S16384, .i1⟩
  | 45 => ⟨S_, .i32⟩
  | 46 => ⟨S16384, .i32⟩
  | 47 => ⟨S16384, .i32⟩
  | 48 => ⟨S16384, .i32⟩
  | 49 => ⟨S_, .i32⟩
  | 50 => ⟨S16384, .i32⟩
  | 51 => ⟨S16384, .i1⟩
  | 52 => ⟨S_, .i32⟩
  | 53 => ⟨S16384, .i32⟩
  | 54 => ⟨S16384, .i32⟩
  | 55 => ⟨S16384, .i32⟩
  | 56 => ⟨S16384x1, .i32⟩
  | 57 => ⟨S16384x1, .i32⟩
  | 58 => ⟨S16384x2, .i32⟩
  | 59 => ⟨S16384, .f32⟩
  | 60 => ⟨S16384, .f32⟩
  | 61 => ⟨S_, .f32⟩
  | 62 => ⟨S16384, .f32⟩
  | 63 => ⟨S16384, .f32⟩
  | 64 => ⟨S16384, .f32⟩
  | 65 => ⟨S16384, .f32⟩
  | 66 => ⟨S16384, .f32⟩
  | 67 => ⟨S_, .f32⟩
  | 68 => ⟨S_, .f32⟩
  | 69 => ⟨S_, .f32⟩
  | 70 => ⟨S_, .f32⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_cst_3 : Ref sig .tc := ⟨.hbm, 38, rfl⟩
abbrev main_call0_v12 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_1 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_call1_cst : Ref sig .tc := ⟨.hbm, 60, rfl⟩
abbrev main_call1_v0 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst_2 : Ref sig .tc := ⟨.hbm, 67, rfl⟩
abbrev main_v28 : Ref sig .tc := ⟨.hbm, 68, rfl⟩
abbrev main_cst_3 : Ref sig .tc := ⟨.hbm, 69, rfl⟩
abbrev main_v29 : Ref sig .tc := ⟨.hbm, 70, rfl⟩
abbrev main_v30 : Ref sig .tc := ⟨.hbm, 71, rfl⟩
abbrev main_c_4 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_cst_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_cst_1 : Ref sig .tc := ⟨.hbm, 83, rfl⟩
abbrev main_call2_v8 : Ref sig .tc := ⟨.hbm, 84, rfl⟩
abbrev main_call2_cst_2 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_cst_3 : Ref sig .tc := ⟨.hbm, 89, rfl⟩
abbrev main_call2_v12 : Ref sig .tc := ⟨.hbm, 90, rfl⟩
abbrev main_call2_cst_4 : Ref sig .tc := ⟨.hbm, 91, rfl⟩
abbrev main_call2_call0_v0 : Ref sig .tc := ⟨.hbm, 92, rfl⟩
abbrev main_call2_call0_v1 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_cst_5 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_call3_cst : Ref sig .tc := ⟨.hbm, 111, rfl⟩
abbrev main_call3_v0 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_cst_6 : Ref sig .tc := ⟨.hbm, 122, rfl⟩
abbrev main_v56 : Ref sig .tc := ⟨.hbm, 123, rfl⟩
abbrev main_cst_7 : Ref sig .tc := ⟨.hbm, 124, rfl⟩
abbrev main_v57 : Ref sig .tc := ⟨.hbm, 125, rfl⟩
abbrev main_v58 : Ref sig .tc := ⟨.hbm, 126, rfl⟩
abbrev main_c_8 : Ref sig .tc := ⟨.hbm, 127, rfl⟩
abbrev main_call4_cst : Ref sig .tc := ⟨.hbm, 128, rfl⟩
abbrev main_call4_v0 : Ref sig .tc := ⟨.hbm, 129, rfl⟩
abbrev main_call4_v1 : Ref sig .tc := ⟨.hbm, 130, rfl⟩
abbrev main_call4_cst_0 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_v5 : Ref sig .tc := ⟨.hbm, 135, rfl⟩
abbrev main_call4_v6 : Ref sig .tc := ⟨.hbm, 136, rfl⟩
abbrev main_call4_v7 : Ref sig .tc := ⟨.hbm, 137, rfl⟩
abbrev main_call4_cst_1 : Ref sig .tc := ⟨.hbm, 138, rfl⟩
abbrev main_call4_v8 : Ref sig .tc := ⟨.hbm, 139, rfl⟩
abbrev main_call4_cst_2 : Ref sig .tc := ⟨.hbm, 140, rfl⟩
abbrev main_call4_v9 : Ref sig .tc := ⟨.hbm, 141, rfl⟩
abbrev main_call4_v10 : Ref sig .tc := ⟨.hbm, 142, rfl⟩
abbrev main_call4_v11 : Ref sig .tc := ⟨.hbm, 143, rfl⟩
abbrev main_call4_cst_3 : Ref sig .tc := ⟨.hbm, 144, rfl⟩
abbrev main_call4_v12 : Ref sig .tc := ⟨.hbm, 145, rfl⟩
abbrev main_call4_cst_4 : Ref sig .tc := ⟨.hbm, 146, rfl⟩
abbrev main_call4_call0_v0 : Ref sig .tc := ⟨.hbm, 147, rfl⟩
abbrev main_call4_call0_v1 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_cst_9 : Ref sig .tc := ⟨.hbm, 153, rfl⟩
abbrev main_v63 : Ref sig .tc := ⟨.hbm, 154, rfl⟩
abbrev main_v64 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_v68 : Ref sig .tc := ⟨.hbm, 159, rfl⟩
abbrev main_v69 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_call5_cst : Ref sig .tc := ⟨.hbm, 166, rfl⟩
abbrev main_call5_v0 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_cst_10 : Ref sig .tc := ⟨.hbm, 173, rfl⟩
abbrev main_v80 : Ref sig .tc := ⟨.hbm, 174, rfl⟩
abbrev main_cst_11 : Ref sig .tc := ⟨.hbm, 175, rfl⟩
abbrev main_v81 : Ref sig .tc := ⟨.hbm, 176, rfl⟩
abbrev main_v82 : Ref sig .tc := ⟨.hbm, 177, rfl⟩
abbrev main_c_12 : Ref sig .tc := ⟨.hbm, 178, rfl⟩
abbrev main_call6_cst : Ref sig .tc := ⟨.hbm, 179, rfl⟩
abbrev main_call6_v0 : Ref sig .tc := ⟨.hbm, 180, rfl⟩
abbrev main_call6_v1 : Ref sig .tc := ⟨.hbm, 181, rfl⟩
abbrev main_call6_cst_0 : Ref sig .tc := ⟨.hbm, 182, rfl⟩
abbrev main_call6_v2 : Ref sig .tc := ⟨.hbm, 183, rfl⟩
abbrev main_call6_v3 : Ref sig .tc := ⟨.hbm, 184, rfl⟩
abbrev main_call6_v4 : Ref sig .tc := ⟨.hbm, 185, rfl⟩
abbrev main_call6_v5 : Ref sig .tc := ⟨.hbm, 186, rfl⟩
abbrev main_call6_v6 : Ref sig .tc := ⟨.hbm, 187, rfl⟩
abbrev main_call6_v7 : Ref sig .tc := ⟨.hbm, 188, rfl⟩
abbrev main_call6_cst_1 : Ref sig .tc := ⟨.hbm, 189, rfl⟩
abbrev main_call6_v8 : Ref sig .tc := ⟨.hbm, 190, rfl⟩
abbrev main_call6_cst_2 : Ref sig .tc := ⟨.hbm, 191, rfl⟩
abbrev main_call6_v9 : Ref sig .tc := ⟨.hbm, 192, rfl⟩
abbrev main_call6_v10 : Ref sig .tc := ⟨.hbm, 193, rfl⟩
abbrev main_call6_v11 : Ref sig .tc := ⟨.hbm, 194, rfl⟩
abbrev main_call6_cst_3 : Ref sig .tc := ⟨.hbm, 195, rfl⟩
abbrev main_call6_v12 : Ref sig .tc := ⟨.hbm, 196, rfl⟩
abbrev main_call6_cst_4 : Ref sig .tc := ⟨.hbm, 197, rfl⟩
abbrev main_call6_call0_v0 : Ref sig .tc := ⟨.hbm, 198, rfl⟩
abbrev main_call6_call0_v1 : Ref sig .tc := ⟨.hbm, 199, rfl⟩
abbrev main_v83 : Ref sig .tc := ⟨.hbm, 200, rfl⟩
abbrev main_v84 : Ref sig .tc := ⟨.hbm, 201, rfl⟩
abbrev main_v85 : Ref sig .tc := ⟨.hbm, 202, rfl⟩
abbrev main_v86 : Ref sig .tc := ⟨.hbm, 203, rfl⟩
abbrev main_cst_13 : Ref sig .tc := ⟨.hbm, 204, rfl⟩
abbrev main_v87 : Ref sig .tc := ⟨.hbm, 205, rfl⟩
abbrev main_v88 : Ref sig .tc := ⟨.hbm, 206, rfl⟩
abbrev main_v89 : Ref sig .tc := ⟨.hbm, 207, rfl⟩
abbrev main_v90 : Ref sig .tc := ⟨.hbm, 208, rfl⟩
abbrev main_v91 : Ref sig .tc := ⟨.hbm, 209, rfl⟩
abbrev main_v92 : Ref sig .tc := ⟨.hbm, 210, rfl⟩
abbrev main_v93 : Ref sig .tc := ⟨.hbm, 211, rfl⟩
abbrev main_v94 : Ref sig .tc := ⟨.hbm, 212, rfl⟩
abbrev main_v95 : Ref sig .tc := ⟨.hbm, 213, rfl⟩
abbrev main_v96 : Ref sig .tc := ⟨.hbm, 214, rfl⟩
abbrev main_v97 : Ref sig .tc := ⟨.hbm, 215, rfl⟩
abbrev main_v98 : Ref sig .tc := ⟨.hbm, 216, rfl⟩
abbrev main_call7_cst : Ref sig .tc := ⟨.hbm, 217, rfl⟩
abbrev main_call7_v0 : Ref sig .tc := ⟨.hbm, 218, rfl⟩
abbrev main_v99 : Ref sig .tc := ⟨.hbm, 219, rfl⟩
abbrev main_v100 : Ref sig .tc := ⟨.hbm, 220, rfl⟩
abbrev main_v101 : Ref sig .tc := ⟨.hbm, 221, rfl⟩
abbrev main_v102 : Ref sig .tc := ⟨.hbm, 222, rfl⟩
abbrev main_v103 : Ref sig .tc := ⟨.hbm, 223, rfl⟩
abbrev main_call8_v0 : Ref sig .tc := ⟨.hbm, 224, rfl⟩
abbrev main_call8_cst : Ref sig .tc := ⟨.hbm, 225, rfl⟩
abbrev main_call8_v1 : Ref sig .tc := ⟨.hbm, 226, rfl⟩
abbrev main_call8_v2 : Ref sig .tc := ⟨.hbm, 227, rfl⟩
abbrev main_v104 : Ref sig .tc := ⟨.hbm, 228, rfl⟩
abbrev main_cst_14 : Ref sig .tc := ⟨.hbm, 229, rfl⟩
abbrev main_v105 : Ref sig .tc := ⟨.hbm, 230, rfl⟩
abbrev main_v106 : Ref sig .tc := ⟨.hbm, 231, rfl⟩
abbrev main_v107 : Ref sig .tc := ⟨.hbm, 232, rfl⟩
abbrev main_v108 : Ref sig .tc := ⟨.hbm, 233, rfl⟩
abbrev main_call9_v0 : Ref sig .tc := ⟨.hbm, 234, rfl⟩
abbrev main_call9_cst : Ref sig .tc := ⟨.hbm, 235, rfl⟩
abbrev main_call9_v1 : Ref sig .tc := ⟨.hbm, 236, rfl⟩
abbrev main_call9_v2 : Ref sig .tc := ⟨.hbm, 237, rfl⟩
abbrev main_v109 : Ref sig .tc := ⟨.hbm, 238, rfl⟩
abbrev main_cst_15 : Ref sig .tc := ⟨.hbm, 239, rfl⟩
abbrev main_v110 : Ref sig .tc := ⟨.hbm, 240, rfl⟩
abbrev main_v111 : Ref sig .tc := ⟨.hbm, 241, rfl⟩
abbrev main_v112 : Ref sig .tc := ⟨.hbm, 242, rfl⟩
abbrev main_v113 : Ref sig .tc := ⟨.hbm, 243, rfl⟩
abbrev main_v114 : Ref sig .tc := ⟨.hbm, 244, rfl⟩
abbrev main_v115 : Ref sig .tc := ⟨.hbm, 245, rfl⟩
abbrev main_v116 : Ref sig .tc := ⟨.hbm, 246, rfl⟩
abbrev main_v117 : Ref sig .tc := ⟨.hbm, 247, rfl⟩
abbrev main_c_16 : Ref sig .tc := ⟨.hbm, 248, rfl⟩
abbrev main_v118 : Ref sig .tc := ⟨.hbm, 249, rfl⟩
abbrev main_v119 : Ref sig .tc := ⟨.hbm, 250, rfl⟩
abbrev main_c_17 : Ref sig .tc := ⟨.hbm, 251, rfl⟩
abbrev main_v120 : Ref sig .tc := ⟨.hbm, 252, rfl⟩
abbrev main_v121 : Ref sig .tc := ⟨.hbm, 253, rfl⟩
abbrev main_c_18 : Ref sig .tc := ⟨.hbm, 254, rfl⟩
abbrev main_v122 : Ref sig .tc := ⟨.hbm, 255, rfl⟩
abbrev main_v123 : Ref sig .tc := ⟨.hbm, 256, rfl⟩
abbrev main_v124 : Ref sig .tc := ⟨.hbm, 257, rfl⟩
abbrev main_c_19 : Ref sig .tc := ⟨.hbm, 258, rfl⟩
abbrev main_v125 : Ref sig .tc := ⟨.hbm, 259, rfl⟩
abbrev main_v126 : Ref sig .tc := ⟨.hbm, 260, rfl⟩
abbrev main_c_20 : Ref sig .tc := ⟨.hbm, 261, rfl⟩
abbrev main_v127 : Ref sig .tc := ⟨.hbm, 262, rfl⟩
abbrev main_v128 : Ref sig .tc := ⟨.hbm, 263, rfl⟩
abbrev main_v129 : Ref sig .tc := ⟨.hbm, 264, rfl⟩
abbrev main_v130 : Ref sig .tc := ⟨.hbm, 265, rfl⟩
abbrev main_v131 : Ref sig .tc := ⟨.hbm, 266, rfl⟩
abbrev main_v132 : Ref sig .tc := ⟨.hbm, 267, rfl⟩
abbrev main_v133 : Ref sig .tc := ⟨.hbm, 268, rfl⟩
abbrev main_c_21 : Ref sig .tc := ⟨.hbm, 269, rfl⟩
abbrev main_v134 : Ref sig .tc := ⟨.hbm, 270, rfl⟩
abbrev main_v135 : Ref sig .tc := ⟨.hbm, 271, rfl⟩
abbrev main_c_22 : Ref sig .tc := ⟨.hbm, 272, rfl⟩
abbrev main_v136 : Ref sig .tc := ⟨.hbm, 273, rfl⟩
abbrev main_v137 : Ref sig .tc := ⟨.hbm, 274, rfl⟩
abbrev main_c_23 : Ref sig .tc := ⟨.hbm, 275, rfl⟩
abbrev main_v138 : Ref sig .tc := ⟨.hbm, 276, rfl⟩
abbrev main_v139 : Ref sig .tc := ⟨.hbm, 277, rfl⟩
abbrev main_v140 : Ref sig .tc := ⟨.hbm, 278, rfl⟩
abbrev main_c_24 : Ref sig .tc := ⟨.hbm, 279, rfl⟩
abbrev main_v141 : Ref sig .tc := ⟨.hbm, 280, rfl⟩
abbrev main_v142 : Ref sig .tc := ⟨.hbm, 281, rfl⟩
abbrev main_c_25 : Ref sig .tc := ⟨.hbm, 282, rfl⟩
abbrev main_v143 : Ref sig .tc := ⟨.hbm, 283, rfl⟩
abbrev main_v144 : Ref sig .tc := ⟨.hbm, 284, rfl⟩
abbrev main_v145 : Ref sig .tc := ⟨.hbm, 285, rfl⟩
abbrev main_v146 : Ref sig .tc := ⟨.hbm, 286, rfl⟩
abbrev main_v147 : Ref sig .tc := ⟨.hbm, 287, rfl⟩
abbrev main_v148 : Ref sig .tc := ⟨.hbm, 288, rfl⟩
abbrev main_v149 : Ref sig .tc := ⟨.hbm, 289, rfl⟩
abbrev main_v150 : Ref sig .tc := ⟨.hbm, 290, rfl⟩
abbrev main_cst_26 : Ref sig .tc := ⟨.hbm, 291, rfl⟩
abbrev main_v151 : Ref sig .tc := ⟨.hbm, 292, rfl⟩
abbrev main_v152 : Ref sig .tc := ⟨.hbm, 293, rfl⟩
abbrev main_v153 : Ref sig .tc := ⟨.hbm, 294, rfl⟩
abbrev main_v154 : Ref sig .tc := ⟨.hbm, 295, rfl⟩
abbrev main_cst_27 : Ref sig .tc := ⟨.hbm, 296, rfl⟩
abbrev main_v155 : Ref sig .tc := ⟨.hbm, 297, rfl⟩
abbrev main_c_28 : Ref sig .tc := ⟨.hbm, 298, rfl⟩
abbrev main_v156 : Ref sig .tc := ⟨.hbm, 299, rfl⟩
abbrev main_v157 : Ref sig .tc := ⟨.hbm, 300, rfl⟩
abbrev main_c_29 : Ref sig .tc := ⟨.hbm, 301, rfl⟩
abbrev main_v158 : Ref sig .tc := ⟨.hbm, 302, rfl⟩
abbrev main_v159 : Ref sig .tc := ⟨.hbm, 303, rfl⟩
abbrev main_v160 : Ref sig .tc := ⟨.hbm, 304, rfl⟩
abbrev main_c_30 : Ref sig .tc := ⟨.hbm, 305, rfl⟩
abbrev main_v161 : Ref sig .tc := ⟨.hbm, 306, rfl⟩
abbrev main_v162 : Ref sig .tc := ⟨.hbm, 307, rfl⟩
abbrev main_c_31 : Ref sig .tc := ⟨.hbm, 308, rfl⟩
abbrev main_v163 : Ref sig .tc := ⟨.hbm, 309, rfl⟩
abbrev main_v164 : Ref sig .tc := ⟨.hbm, 310, rfl⟩
abbrev main_v165 : Ref sig .tc := ⟨.hbm, 311, rfl⟩
abbrev main_v166 : Ref sig .tc := ⟨.hbm, 312, rfl⟩
abbrev main_v167 : Ref sig .tc := ⟨.hbm, 313, rfl⟩
abbrev main_v168 : Ref sig .tc := ⟨.hbm, 314, rfl⟩
abbrev main_v169 : Ref sig .tc := ⟨.hbm, 315, rfl⟩
abbrev main_v170 : Ref sig .tc := ⟨.hbm, 316, rfl⟩
abbrev main_cst_32 : Ref sig .tc := ⟨.hbm, 317, rfl⟩
abbrev main_v171 : Ref sig .tc := ⟨.hbm, 318, rfl⟩
abbrev main_v172 : Ref sig .tc := ⟨.hbm, 319, rfl⟩
abbrev main_v173 : Ref sig .tc := ⟨.hbm, 320, rfl⟩
abbrev main_v174 : Ref sig .tc := ⟨.hbm, 321, rfl⟩
abbrev main_v175 : Ref sig .tc := ⟨.hbm, 322, rfl⟩
abbrev main_cst_33 : Ref sig .tc := ⟨.hbm, 323, rfl⟩
abbrev main_v176 : Ref sig .tc := ⟨.hbm, 324, rfl⟩
abbrev main_cst_34 : Ref sig .tc := ⟨.hbm, 325, rfl⟩
abbrev main_v177 : Ref sig .tc := ⟨.hbm, 326, rfl⟩

abbrev nD : Nat := 1
abbrev τ : Topo := Topo.v7x

variable {F : FTy → Type} [FloatOps F]
-- ==== Proof.Run.lean ====
/-
  The idealized kernel's body, run once per phase of the grid.
-/
module

public import proofs.«01_k».proof.Proof.Gen.KernelIdeal.Frame
public import proofs.«01_k».proof.Proof.Gen.KernelIdeal.Skeleton
public import Idealize.ShloMosaic.Lib.Pipeline.TableIdle
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F] [∀ e, Nonempty (Elt F e)]

local notation "𝕄" => MT nD τ sig Unit (Elt F) ℕ (UR sig nD τ) ℕ

/-! ## Blocks of the scratch buffers -/

/-- The block `j` of the activations' scratch. -/
def ablk (ab : Vec F S4x2048x256 .f32) (j : Fin 4) : Vec F S1x2048x256 .f32 :=
  VecWindow.window ab ![j.val, 0, 0] S1x2048x256.size (by have := j.isLt; intro a; fin_cases a <;> simp [S4x2048x256, S1x2048x256] <;> omega)
/-- The scratch with its block `j` written: `p` in the first 128 columns, `q` in the last 128. -/
def aput (ab : Vec F S4x2048x256 .f32) (j : Fin 4) (p q : Vec F S1x2048x128 .f32) : Vec F S4x2048x256 .f32 :=
  VecWindow.put (VecWindow.put ab ![j.val, 0, 0] S1x2048x128.size p) ![j.val, 0, 128] S1x2048x128.size q
/-- The block `(h, j)` of the normalised rows' scratch. -/
def zblk (z : Vec F S2x4x2048x128 .f32) (h : Fin 2) (j : Fin 4) : Vec F S1x1x2048x128 .f32 :=
  VecWindow.window z ![h.val, j.val, 0, 0] S1x1x2048x128.size (by have := j.isLt; have := h.isLt; intro a; fin_cases a <;> simp [S2x4x2048x128, S1x1x2048x128] <;> omega)
/-- The scratch with its block `(h, j)` written. -/
def zput (z : Vec F S2x4x2048x128 .f32) (h : Fin 2) (j : Fin 4) (p : Vec F S1x1x2048x128 .f32) : Vec F S2x4x2048x128 .f32 :=
  VecWindow.put z ![h.val, j.val, 0, 0] S1x1x2048x128.size p

/-! ## What one point leaves in the scratch buffers -/

/-- The floor under a row's squared norm. -/
abbrev tsq : F .f32 := Named.named κ "tiny_sq" 0x179ABE15#32
/-- The first layer's running column sums and sums of squares after block `j`. -/
def sum1 (j : Fin 4) (x : Vec F S2048x512 .f32) (w : Vec F S512x256 .bf16) (b : Vec F S1x256 .f32) (st : Vec F S2x256 .f32) : Vec F S2x256 .f32 :=
  if j.val = 0 then k0_pay5 x w b else k0_pay6 x w b st
/-- The second layer's running column sums and sums of squares after block `j`. -/
def sum2 (j : Fin 4) (y : FVec F S2048x256 .f32) (st : Vec F S2x256 .f32) : Vec F S2x256 .f32 :=
  if j.val = 0 then k0_pay16 y else k0_pay17 y st
/-- The running sum of the normalised rows after block `(h, j)`. -/
def sumz (h : Fin 2) (j : Fin 4) (p : FVec F S2048x128 .f32) (q : FVec F S2048x1 .f32) (s : Vec F S1x128 .f32) : Vec F S1x128 .f32 :=
  if h.val = 0 ∧ j.val = 0 then k0_pay21 p q tsq else k0_pay22 p q tsq s
/-- The running total of the losses after block `j`. -/
def suml (j : Fin 4) (l : FVec F S1x128 .f32) (o : Vec F S1x128 .f32) : Vec F S1x128 .f32 :=
  if j.val = 0 then l else k0_pay23 l o

/-! ## The branch conditions over the grid -/

theorem c1 : ∀ i : grid0.Coords, (k0_cond1 i = 1#1 ↔ (i 1).val < 4) := by decide +kernel
theorem c2 : ∀ i : grid0.Coords, (k0_cond2 i = 1#1 ↔ (i 0).val = 0) := by decide +kernel
theorem c5 : ∀ i : grid0.Coords, (k0_cond5 i = 1#1 ↔ (i 0).val = 1) := by decide +kernel
theorem c8 : ∀ i : grid0.Coords, (k0_cond8 i = 1#1 ↔ 4 ≤ (i 1).val ∧ (i 1).val < 8) := by decide +kernel
theorem c11 : ∀ i : grid0.Coords, (k0_cond11 i = 1#1 ↔ 8 ≤ (i 1).val ∧ (i 1).val < 12) := by decide +kernel
theorem c14 : ∀ i : grid0.Coords, (k0_cond14 i = 1#1 ↔ (i 0).val = 1 ∧ 12 ≤ (i 1).val) := by decide +kernel
theorem c15 : ∀ i : grid0.Coords, (k0_cond15 i = 1#1 ↔ (i 1).val = 12) := by decide +kernel
theorem c16 : ∀ i : grid0.Coords, (k0_cond16 i = 1#1 ↔ (i 1).val ≠ 12) := by decide +kernel
theorem cfirst4 : ∀ i : grid0.Coords, ((Scalar.cmpi .ne (Scalar.extui (Scalar.cmpi .eq (Scalar.subi (BitVec.ofNat 32 (i 1).val) 4#32) 0#32) : BitVec 32) 0#32 : BitVec 1) = 1#1 ↔ (i 1).val = 4) := by decide +kernel
theorem clater4 : ∀ i : grid0.Coords, ((Scalar.cmpi .ne (Scalar.extui (Scalar.cmpi .ne (Scalar.subi (BitVec.ofNat 32 (i 1).val) 4#32) 0#32) : BitVec 32) 0#32 : BitVec 1) = 1#1 ↔ (i 1).val ≠ 4) := by decide +kernel
theorem cfirst0 : ∀ i : grid0.Coords, ((Scalar.cmpi .ne (Scalar.extui (Scalar.cmpi .eq (BitVec.ofNat 32 (i 1).val) 0#32) : BitVec 32) 0#32 : BitVec 1) = 1#1 ↔ (i 1).val = 0) := by decide +kernel
theorem clater0 : ∀ i : grid0.Coords, ((Scalar.cmpi .ne (Scalar.extui (Scalar.cmpi .ne (BitVec.ofNat 32 (i 1).val) 0#32) : BitVec 32) 0#32 : BitVec 1) = 1#1 ↔ (i 1).val ≠ 0) := by decide +kernel
theorem cfirstz : ∀ i : grid0.Coords, ((Scalar.cmpi .ne (Scalar.extui (Scalar.andi (Scalar.cmpi .eq (BitVec.ofNat 32 (i 0).val) 0#32) (Scalar.cmpi .eq (Scalar.subi (BitVec.ofNat 32 (i 1).val) 8#32) 0#32)) : BitVec 32) 0#32 : BitVec 1) = 1#1 ↔ (i 0).val = 0 ∧ (i 1).val = 8) := by decide +kernel
theorem claterz : ∀ i : grid0.Coords, ((Scalar.cmpi .ne (Scalar.extui (Scalar.ori (Scalar.cmpi .ne (BitVec.ofNat 32 (i 0).val) 0#32) (Scalar.cmpi .ne (Scalar.subi (BitVec.ofNat 32 (i 1).val) 8#32) 0#32)) : BitVec 32) 0#32 : BitVec 1) = 1#1 ↔ ¬ ((i 0).val = 0 ∧ (i 1).val = 8)) := by decide +kernel
theorem off5 : ∀ i : grid0.Coords, ∀ j : Fin 4, (i 1).val = j.val + 4 → k0_off5 i = ![j.val, 0, 0] := by decide +kernel
theorem off6 : ∀ i : grid0.Coords, ∀ j : Fin 4, (i 1).val = j.val + 4 → k0_off6 i = ![j.val, 0, 0] := by decide +kernel
theorem off7 : ∀ i : grid0.Coords, ∀ j : Fin 4, (i 1).val = j.val + 4 → k0_off7 i = ![j.val, 0, 128] := by decide +kernel
theorem off8 : ∀ i : grid0.Coords, ∀ j : Fin 4, (i 1).val = j.val + 8 → k0_off8 i = ![j.val, 0, 0] := by decide +kernel
theorem off9 : ∀ i : grid0.Coords, ∀ h : Fin 2, ∀ j : Fin 4, (i 0).val = h.val → (i 1).val = j.val + 8 → k0_off9 i = ![h.val, j.val, 0, 0] := by decide +kernel
theorem off10 : ∀ i : grid0.Coords, ∀ j : Fin 4, (i 1).val = j.val + 12 → k0_off10 i = ![(0 : Fin 2).val, j.val, 0, 0] := by decide +kernel
theorem off11 : ∀ i : grid0.Coords, ∀ j : Fin 4, (i 1).val = j.val + 12 → k0_off11 i = ![(1 : Fin 2).val, j.val, 0, 0] := by decide +kernel

/-! ## The body, once per phase -/

section
variable (c : Dev nD) (i : grid0.Coords)
  (arg2 : Memref sig .tc .vmem S2048x512 .f32) (harg2 : arg2.IsWhole) (arg3 : Memref sig .tc .vmem S2048x512 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x128 .bf16) (harg12 : arg12.IsWhole) (arg13 : Memref sig .tc .vmem S1x128 .f32) (harg13 : arg13.IsWhole) (arg14 : Memref sig .tc .vmem S1x128 .f32) (harg14 : arg14.IsWhole) (arg15 : Memref sig .tc .vmem S4x2048x256 .f32) (harg15 : arg15.IsWhole) (arg16 : Memref sig .tc .vmem S2x4x2048x128 .f32) (harg16 : arg16.IsWhole) (arg17 : Memref sig .tc .vmem S2x256 .f32) (harg17 : arg17.IsWhole) (arg18 : Memref sig .tc .vmem S2x256 .f32) (harg18 : arg18.IsWhole) (arg19 : Memref sig .tc .vmem S1x128 .f32) (harg19 : arg19.IsWhole)

/-- The first layer on half 0: block `j` of its input multiplied by the weights, written to the scratch, and its column sums accumulated. -/
theorem run1_0 (j : Fin 4) (x : Vec F S2048x512 .f32) (w : Vec F S512x256 .bf16) (b : Vec F S1x256 .f32) (ab : Vec F S4x2048x256 .f32) (st : Vec F S2x256 .f32)
    (hh : (i 0).val = 0) (hj : (i 1).val = j.val) (K : PUnit → sProp 𝕄) :
    iprop(owns (c : Thread nD τ) arg2 fullShare x ∗ owns (c : Thread nD τ) arg4 fullShare w ∗ owns (c : Thread nD τ) arg5 fullShare b ∗ owns (c : Thread nD τ) arg15 fullShare ab ∗ owns (c : Thread nD τ) arg17 fullShare st
        ∗ (iprop(owns (c : Thread nD τ) arg2 fullShare x ∗ owns (c : Thread nD τ) arg4 fullShare w ∗ owns (c : Thread nD τ) arg5 fullShare b ∗ owns (c : Thread nD τ) arg15 fullShare (aput ab j (k0_pay2 x w b) (k0_pay3 x w b)) ∗ owns (c : Thread nD τ) arg17 fullShare (sum1 j x w b st)) -∗ K ⟨⟩))
      ⊢ wp frame (wpE (defs₀ (F := F)) Variants.none c none) Set.univ
          (cc0_simclr_fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [owns_eq_rep]
  simp only [cc0_simclr_fused_eq_skeleton]; unfold cc0_simclr_fused_skel
  have hlt := j.isLt
  have d1 : k0_cond1 i = 1#1 := by rw [c1]; omega
  have d2 : k0_cond2 i = 1#1 := by rw [c2]; omega
  have d5 : ¬ k0_cond5 i = 1#1 := by rw [c5]; omega
  have d8 : ¬ k0_cond8 i = 1#1 := by rw [c8]; omega
  have d11 : ¬ k0_cond11 i = 1#1 := by rw [c11]; omega
  have d14 : ¬ k0_cond14 i = 1#1 := by rw [c14]; omega
  have r2 : arg2.view.readAt (Elt F) (Rect.unit (s := S2048x512) ![0, 0] S2048x512.size inb_S2048x512_S2048x512_0_0).toLoadRect (arg2.view.rep x) = x :=
    View.readAt_rep_full _ _ _
  have r4 : arg4.view.readAt (Elt F) (Rect.unit (s := S512x256) ![0, 0] S512x256.size inb_S512x256_S512x256_0_0).toLoadRect (arg4.view.rep w) = w :=
    View.readAt_rep_full _ _ _
  have r5 : arg5.view.readAt (Elt F) (Rect.unit (s := S1x256) ![0, 0] S1x256.size inb_S1x256_S1x256_0_0).toLoadRect (arg5.view.rep b) = b :=
    View.readAt_rep_full _ _ _
  have r17 : arg17.view.readAt (Elt F) (Rect.unit (s := S2x256) ![0, 0] S2x256.size inb_S2x256_S2x256_0_0).toLoadRect (arg17.view.rep st) = st :=
    View.readAt_rep_full _ _ _
  have e1 := cfirst0 i
  have e2 := clater0 i
  by_cases h0 : (i 1).val = 0
  · replace e1 := e1.mpr h0
    replace e2 := fun h => (e2.mp h) h0
    have hs : sum1 j x w b st = k0_pay5 x w b := if_pos (by omega)
    rw [hs]
    iintro ⟨H2, H4, H5, H15, H17, HK⟩
    sl_exec (disch := first | sl_exact e1 | sl_exact e2)
    sl_step
    iapply HK
    isplitl [H2]; · iexact H2
    isplitl [H4]; · iexact H4
    isplitl [H5]; · iexact H5
    isplitl [H15]
    · iapply (pointsTo_rep_of_read _ _ _ _ _ ?p15) $$ H15
      case p15 =>
        rw [View.read_writes_cons_put _ _ _ _ _ (k0_off2_eq i), View.read_writes_cons_put _ _ _ _ _ (k0_off1_eq i), hj]
        simp only [View.writes_nil, View.read_rep]
        rfl
    iapply (pointsTo_rep_of_read _ _ _ _ _ ?p17) $$ H17
    case p17 =>
      refine (View.read_writes_full _ _ _ _ _).trans ?_
      rfl
  · replace e2 := e2.mpr h0
    replace e1 := fun h => h0 (e1.mp h)
    have hs : sum1 j x w b st = k0_pay6 x w b st := if_neg (by omega)
    rw [hs]
    iintro ⟨H2, H4, H5, H15, H17, HK⟩
    sl_exec (disch := first | sl_exact e1 | sl_exact e2)
    sl_step
    iapply HK
    isplitl [H2]; · iexact H2
    isplitl [H4]; · iexact H4
    isplitl [H5]; · iexact H5
    isplitl [H15]
    · iapply (pointsTo_rep_of_read _ _ _ _ _ ?p15) $$ H15
      case p15 =>
        rw [View.read_writes_cons_put _ _ _ _ _ (k0_off2_eq i), View.read_writes_cons_put _ _ _ _ _ (k0_off1_eq i), hj]
        simp only [View.writes_nil, View.read_rep]
        rfl
    iapply (pointsTo_rep_of_read _ _ _ _ _ ?p17) $$ H17
    case p17 =>
      refine (View.read_writes_full _ _ _ _ _).trans ?_
      rfl

/-- The first layer on half 1: block `j` of its input multiplied by the weights, written to the scratch, and its column sums accumulated. -/
theorem run1_1 (j : Fin 4) (x : Vec F S2048x512 .f32) (w : Vec F S512x256 .bf16) (b : Vec F S1x256 .f32) (ab : Vec F S4x2048x256 .f32) (st : Vec F S2x256 .f32)
    (hh : (i 0).val = 1) (hj : (i 1).val = j.val) (K : PUnit → sProp 𝕄) :
    iprop(owns (c : Thread nD τ) arg3 fullShare x ∗ owns (c : Thread nD τ) arg4 fullShare w ∗ owns (c : Thread nD τ) arg5 fullShare b ∗ owns (c : Thread nD τ) arg15 fullShare ab ∗ owns (c : Thread nD τ) arg17 fullShare st
        ∗ (iprop(owns (c : Thread nD τ) arg3 fullShare x ∗ owns (c : Thread nD τ) arg4 fullShare w ∗ owns (c : Thread nD τ) arg5 fullShare b ∗ owns (c : Thread nD τ) arg15 fullShare (aput ab j (k0_pay2 x w b) (k0_pay3 x w b)) ∗ owns (c : Thread nD τ) arg17 fullShare (sum1 j x w b st)) -∗ K ⟨⟩))
      ⊢ wp frame (wpE (defs₀ (F := F)) Variants.none c none) Set.univ
          (cc0_simclr_fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [owns_eq_rep]
  simp only [cc0_simclr_fused_eq_skeleton]; unfold cc0_simclr_fused_skel
  have hlt := j.isLt
  have d1 : k0_cond1 i = 1#1 := by rw [c1]; omega
  have d2 : ¬ k0_cond2 i = 1#1 := by rw [c2]; omega
  have d5 : k0_cond5 i = 1#1 := by rw [c5]; omega
  have d8 : ¬ k0_cond8 i = 1#1 := by rw [c8]; omega
  have d11 : ¬ k0_cond11 i = 1#1 := by rw [c11]; omega
  have d14 : ¬ k0_cond14 i = 1#1 := by rw [c14]; omega
  have r3 : arg3.view.readAt (Elt F) (Rect.unit (s := S2048x512) ![0, 0] S2048x512.size inb_S2048x512_S2048x512_0_0).toLoadRect (arg3.view.rep x) = x :=
    View.readAt_rep_full _ _ _
  have r4 : arg4.view.readAt (Elt F) (Rect.unit (s := S512x256) ![0, 0] S512x256.size inb_S512x256_S512x256_0_0).toLoadRect (arg4.view.rep w) = w :=
    View.readAt_rep_full _ _ _
  have r5 : arg5.view.readAt (Elt F) (Rect.unit (s := S1x256) ![0, 0] S1x256.size inb_S1x256_S1x256_0_0).toLoadRect (arg5.view.rep b) = b :=
    View.readAt_rep_full _ _ _
  have r17 : arg17.view.readAt (Elt F) (Rect.unit (s := S2x256) ![0, 0] S2x256.size inb_S2x256_S2x256_0_0).toLoadRect (arg17.view.rep st) = st :=
    View.readAt_rep_full _ _ _
  have e1 := cfirst0 i
  have e2 := clater0 i
  by_cases h0 : (i 1).val = 0
  · replace e1 := e1.mpr h0
    replace e2 := fun h => (e2.mp h) h0
    have hs : sum1 j x w b st = k0_pay5 x w b := if_pos (by omega)
    rw [hs]
    iintro ⟨H3, H4, H5, H15, H17, HK⟩
    sl_exec (disch := first | sl_exact e1 | sl_exact e2)
    sl_step
    iapply HK
    isplitl [H3]; · iexact H3
    isplitl [H4]; · iexact H4
    isplitl [H5]; · iexact H5
    isplitl [H15]
    · iapply (pointsTo_rep_of_read _ _ _ _ _ ?p15) $$ H15
      case p15 =>
        rw [View.read_writes_cons_put _ _ _ _ _ (k0_off4_eq i), View.read_writes_cons_put _ _ _ _ _ (k0_off3_eq i), hj]
        simp only [View.writes_nil, View.read_rep]
        rfl
    iapply (pointsTo_rep_of_read _ _ _ _ _ ?p17) $$ H17
    case p17 =>
      refine (View.read_writes_full _ _ _ _ _).trans ?_
      rfl
  · replace e2 := e2.mpr h0
    replace e1 := fun h => h0 (e1.mp h)
    have hs : sum1 j x w b st = k0_pay6 x w b st := if_neg (by omega)
    rw [hs]
    iintro ⟨H3, H4, H5, H15, H17, HK⟩
    sl_exec (disch := first | sl_exact e1 | sl_exact e2)
    sl_step
    iapply HK
    isplitl [H3]; · iexact H3
    isplitl [H4]; · iexact H4
    isplitl [H5]; · iexact H5
    isplitl [H15]
    · iapply (pointsTo_rep_of_read _ _ _ _ _ ?p15) $$ H15
      case p15 =>
        rw [View.read_writes_cons_put _ _ _ _ _ (k0_off4_eq i), View.read_writes_cons_put _ _ _ _ _ (k0_off3_eq i), hj]
        simp only [View.writes_nil, View.read_rep]
        rfl
    iapply (pointsTo_rep_of_read _ _ _ _ _ ?p17) $$ H17
    case p17 =>
      refine (View.read_writes_full _ _ _ _ _).trans ?_
      rfl

/-- The second layer: block `j` normalised and rectified, multiplied by the weights, written back over the block, and its column sums accumulated. -/
theorem run2 (j : Fin 4) (g be b : Vec F S1x256 .f32) (w : Vec F S256x256 .bf16) (ab : Vec F S4x2048x256 .f32) (st st' : Vec F S2x256 .f32)
    (hj : (i 1).val = j.val + 4) (K : PUnit → sProp 𝕄) :
    iprop(owns (c : Thread nD τ) arg6 fullShare g ∗ owns (c : Thread nD τ) arg7 fullShare be ∗ owns (c : Thread nD τ) arg8 fullShare w ∗ owns (c : Thread nD τ) arg9 fullShare b ∗ owns (c : Thread nD τ) arg17 fullShare st ∗ owns (c : Thread nD τ) arg15 fullShare ab ∗ owns (c : Thread nD τ) arg18 fullShare st'
        ∗ (iprop(owns (c : Thread nD τ) arg6 fullShare g ∗ owns (c : Thread nD τ) arg7 fullShare be ∗ owns (c : Thread nD τ) arg8 fullShare w ∗ owns (c : Thread nD τ) arg9 fullShare b ∗ owns (c : Thread nD τ) arg17 fullShare st ∗ owns (c : Thread nD τ) arg15 fullShare (aput ab j (k0_pay13 (k0_pay25 (ablk ab j) st g be w b)) (k0_pay14 (k0_pay24 (ablk ab j) st g be w b))) ∗ owns (c : Thread nD τ) arg18 fullShare (sum2 j (k0_pay24 (ablk ab j) st g be w b) st')) -∗ K ⟨⟩))
      ⊢ wp frame (wpE (defs₀ (F := F)) Variants.none c none) Set.univ
          (cc0_simclr_fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [owns_eq_rep]
  simp only [cc0_simclr_fused_eq_skeleton]; unfold cc0_simclr_fused_skel
  have hlt := j.isLt
  have d1 : ¬ k0_cond1 i = 1#1 := by rw [c1]; omega
  have d8 : k0_cond8 i = 1#1 := by rw [c8]; omega
  have d11 : ¬ k0_cond11 i = 1#1 := by rw [c11]; omega
  have d14 : ¬ k0_cond14 i = 1#1 := by rw [c14]; omega
  have r5 : arg15.view.readAt (Elt F) (Rect.unit (s := S4x2048x256) (k0_off5 i) S1x2048x256.size (k0_off5_inb i d8)).toLoadRect (arg15.view.rep ab) = ablk ab j :=
    View.readAt_rep_unit _ _ _ (off5 i j hj) _
  have r6 : arg6.view.readAt (Elt F) (Rect.unit (s := S1x256) ![0, 0] S1x256.size inb_S1x256_S1x256_0_0).toLoadRect (arg6.view.rep g) = g :=
    View.readAt_rep_full _ _ _
  have r7 : arg7.view.readAt (Elt F) (Rect.unit (s := S1x256) ![0, 0] S1x256.size inb_S1x256_S1x256_0_0).toLoadRect (arg7.view.rep be) = be :=
    View.readAt_rep_full _ _ _
  have r8 : arg8.view.readAt (Elt F) (Rect.unit (s := S256x256) ![0, 0] S256x256.size inb_S256x256_S256x256_0_0).toLoadRect (arg8.view.rep w) = w :=
    View.readAt_rep_full _ _ _
  have r9 : arg9.view.readAt (Elt F) (Rect.unit (s := S1x256) ![0, 0] S1x256.size inb_S1x256_S1x256_0_0).toLoadRect (arg9.view.rep b) = b :=
    View.readAt_rep_full _ _ _
  have r17 : arg17.view.readAt (Elt F) (Rect.unit (s := S2x256) ![0, 0] S2x256.size inb_S2x256_S2x256_0_0).toLoadRect (arg17.view.rep st) = st :=
    View.readAt_rep_full _ _ _
  have r18 : arg18.view.readAt (Elt F) (Rect.unit (s := S2x256) ![0, 0] S2x256.size inb_S2x256_S2x256_0_0).toLoadRect (arg18.view.rep st') = st' :=
    View.readAt_rep_full _ _ _
  have e1 := cfirst4 i
  have e2 := clater4 i
  by_cases h0 : (i 1).val = 4
  · replace e1 := e1.mpr h0
    replace e2 := fun h => (e2.mp h) h0
    have hs : sum2 j (k0_pay24 (ablk ab j) st g be w b) st' = k0_pay16 (k0_pay24 (ablk ab j) st g be w b) := if_pos (by omega)
    rw [hs]
    iintro ⟨H6, H7, H8, H9, H17, H15, H18, HK⟩
    sl_exec (disch := first | sl_exact e1 | sl_exact e2)
    sl_step
    iapply HK
    isplitl [H6]; · iexact H6
    isplitl [H7]; · iexact H7
    isplitl [H8]; · iexact H8
    isplitl [H9]; · iexact H9
    isplitl [H17]; · iexact H17
    isplitl [H15]
    · iapply (pointsTo_rep_of_read _ _ _ _ _ ?p15) $$ H15
      case p15 =>
        rw [View.read_writes_cons_put _ _ _ _ _ (off7 i j hj), View.read_writes_cons_put _ _ _ _ _ (off6 i j hj)]
        simp only [View.writes_nil, View.read_rep]
        rfl
    iapply (pointsTo_rep_of_read _ _ _ _ _ ?p18) $$ H18
    case p18 =>
      refine (View.read_writes_full _ _ _ _ _).trans ?_
      rfl
  · replace e2 := e2.mpr h0
    replace e1 := fun h => h0 (e1.mp h)
    have hs : sum2 j (k0_pay24 (ablk ab j) st g be w b) st' = k0_pay17 (k0_pay24 (ablk ab j) st g be w b) st' := if_neg (by omega)
    rw [hs]
    iintro ⟨H6, H7, H8, H9, H17, H15, H18, HK⟩
    sl_exec (disch := first | sl_exact e1 | sl_exact e2)
    sl_step
    iapply HK
    isplitl [H6]; · iexact H6
    isplitl [H7]; · iexact H7
    isplitl [H8]; · iexact H8
    isplitl [H9]; · iexact H9
    isplitl [H17]; · iexact H17
    isplitl [H15]
    · iapply (pointsTo_rep_of_read _ _ _ _ _ ?p15) $$ H15
      case p15 =>
        rw [View.read_writes_cons_put _ _ _ _ _ (off7 i j hj), View.read_writes_cons_put _ _ _ _ _ (off6 i j hj)]
        simp only [View.writes_nil, View.read_rep]
        rfl
    iapply (pointsTo_rep_of_read _ _ _ _ _ ?p18) $$ H18
    case p18 =>
      refine (View.read_writes_full _ _ _ _ _).trans ?_
      rfl

/-- The third layer on half `h`: block `j` normalised and rectified, multiplied by the weights, each row divided by its norm, written to the rows' scratch, and the rows' sum accumulated. -/
theorem run3 (h : Fin 2) (j : Fin 4) (g be : Vec F S1x256 .f32) (w : Vec F S256x128 .bf16) (b : Vec F S1x128 .f32) (st : Vec F S2x256 .f32) (ab : Vec F S4x2048x256 .f32) (z : Vec F S2x4x2048x128 .f32) (s : Vec F S1x128 .f32)
    (hh : (i 0).val = h.val) (hj : (i 1).val = j.val + 8) (K : PUnit → sProp 𝕄) :
    iprop(owns (c : Thread nD τ) arg10 fullShare g ∗ owns (c : Thread nD τ) arg11 fullShare be ∗ owns (c : Thread nD τ) arg12 fullShare w ∗ owns (c : Thread nD τ) arg13 fullShare b ∗ owns (c : Thread nD τ) arg18 fullShare st ∗ owns (c : Thread nD τ) arg15 fullShare ab ∗ owns (c : Thread nD τ) arg16 fullShare z ∗ owns (c : Thread nD τ) arg19 fullShare s
        ∗ (iprop(owns (c : Thread nD τ) arg10 fullShare g ∗ owns (c : Thread nD τ) arg11 fullShare be ∗ owns (c : Thread nD τ) arg12 fullShare w ∗ owns (c : Thread nD τ) arg13 fullShare b ∗ owns (c : Thread nD τ) arg18 fullShare st ∗ owns (c : Thread nD τ) arg15 fullShare ab ∗ owns (c : Thread nD τ) arg16 fullShare (zput z h j (k0_pay19 (k0_pay26 (ablk ab j) st g be w b) (k0_pay27 (ablk ab j) st g be w b) tsq)) ∗ owns (c : Thread nD τ) arg19 fullShare (sumz h j (k0_pay26 (ablk ab j) st g be w b) (k0_pay27 (ablk ab j) st g be w b) s)) -∗ K ⟨⟩))
      ⊢ wp frame (wpE (defs₀ (F := F)) Variants.none c none) Set.univ
          (cc0_simclr_fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [owns_eq_rep]
  simp only [cc0_simclr_fused_eq_skeleton]; unfold cc0_simclr_fused_skel
  have hlt := j.isLt
  have d1 : ¬ k0_cond1 i = 1#1 := by rw [c1]; omega
  have d8 : ¬ k0_cond8 i = 1#1 := by rw [c8]; omega
  have d11 : k0_cond11 i = 1#1 := by rw [c11]; omega
  have d14 : ¬ k0_cond14 i = 1#1 := by rw [c14]; omega
  have r8 : arg15.view.readAt (Elt F) (Rect.unit (s := S4x2048x256) (k0_off8 i) S1x2048x256.size (k0_off8_inb i d11)).toLoadRect (arg15.view.rep ab) = ablk ab j :=
    View.readAt_rep_unit _ _ _ (off8 i j hj) _
  have r10 : arg10.view.readAt (Elt F) (Rect.unit (s := S1x256) ![0, 0] S1x256.size inb_S1x256_S1x256_0_0).toLoadRect (arg10.view.rep g) = g :=
    View.readAt_rep_full _ _ _
  have r11 : arg11.view.readAt (Elt F) (Rect.unit (s := S1x256) ![0, 0] S1x256.size inb_S1x256_S1x256_0_0).toLoadRect (arg11.view.rep be) = be :=
    View.readAt_rep_full _ _ _
  have r12 : arg12.view.readAt (Elt F) (Rect.unit (s := S256x128) ![0, 0] S256x128.size inb_S256x128_S256x128_0_0).toLoadRect (arg12.view.rep w) = w :=
    View.readAt_rep_full _ _ _
  have r13 : arg13.view.readAt (Elt F) (Rect.unit (s := S1x128) ![0, 0] S1x128.size inb_S1x128_S1x128_0_0).toLoadRect (arg13.view.rep b) = b :=
    View.readAt_rep_full _ _ _
  have r18 : arg18.view.readAt (Elt F) (Rect.unit (s := S2x256) ![0, 0] S2x256.size inb_S2x256_S2x256_0_0).toLoadRect (arg18.view.rep st) = st :=
    View.readAt_rep_full _ _ _
  have r19 : arg19.view.readAt (Elt F) (Rect.unit (s := S1x128) ![0, 0] S1x128.size inb_S1x128_S1x128_0_0).toLoadRect (arg19.view.rep s) = s :=
    View.readAt_rep_full _ _ _
  have e1 := cfirstz i
  have e2 := claterz i
  by_cases h0 : (i 0).val = 0 ∧ (i 1).val = 8
  · replace e1 := e1.mpr h0
    replace e2 := fun h => (e2.mp h) h0
    have hs : sumz h j (k0_pay26 (ablk ab j) st g be w b) (k0_pay27 (ablk ab j) st g be w b) s = k0_pay21 (k0_pay26 (ablk ab j) st g be w b) (k0_pay27 (ablk ab j) st g be w b) tsq := if_pos (by omega)
    rw [hs]
    iintro ⟨H10, H11, H12, H13, H18, H15, H16, H19, HK⟩
    sl_exec (disch := first | sl_exact e1 | sl_exact e2)
    sl_step
    iapply HK
    isplitl [H10]; · iexact H10
    isplitl [H11]; · iexact H11
    isplitl [H12]; · iexact H12
    isplitl [H13]; · iexact H13
    isplitl [H18]; · iexact H18
    isplitl [H15]; · iexact H15
    isplitl [H16]
    · iapply (pointsTo_rep_of_read _ _ _ _ _ ?p16) $$ H16
      case p16 =>
        rw [View.read_writes_cons_put _ _ _ _ _ (off9 i h j hh hj)]
        simp only [View.writes_nil, View.read_rep]
        rfl
    iapply (pointsTo_rep_of_read _ _ _ _ _ ?p19) $$ H19
    case p19 =>
      refine (View.read_writes_full _ _ _ _ _).trans ?_
      rfl
  · replace e2 := e2.mpr h0
    replace e1 := fun h => h0 (e1.mp h)
    have hs : sumz h j (k0_pay26 (ablk ab j) st g be w b) (k0_pay27 (ablk ab j) st g be w b) s = k0_pay22 (k0_pay26 (ablk ab j) st g be w b) (k0_pay27 (ablk ab j) st g be w b) tsq s := if_neg (by omega)
    rw [hs]
    iintro ⟨H10, H11, H12, H13, H18, H15, H16, H19, HK⟩
    sl_exec (disch := first | sl_exact e1 | sl_exact e2)
    sl_step
    iapply HK
    isplitl [H10]; · iexact H10
    isplitl [H11]; · iexact H11
    isplitl [H12]; · iexact H12
    isplitl [H13]; · iexact H13
    isplitl [H18]; · iexact H18
    isplitl [H15]; · iexact H15
    isplitl [H16]
    · iapply (pointsTo_rep_of_read _ _ _ _ _ ?p16) $$ H16
      case p16 =>
        rw [View.read_writes_cons_put _ _ _ _ _ (off9 i h j hh hj)]
        simp only [View.writes_nil, View.read_rep]
        rfl
    iapply (pointsTo_rep_of_read _ _ _ _ _ ?p19) $$ H19
    case p19 =>
      refine (View.read_writes_full _ _ _ _ _).trans ?_
      rfl

/-- The loss on block `j` of the two halves, accumulated in the result. -/
theorem run4 (j : Fin 4) (z : Vec F S2x4x2048x128 .f32) (s o : Vec F S1x128 .f32)
    (hh : (i 0).val = 1) (hj : (i 1).val = j.val + 12) (K : PUnit → sProp 𝕄) :
    iprop(owns (c : Thread nD τ) arg16 fullShare z ∗ owns (c : Thread nD τ) arg19 fullShare s ∗ owns (c : Thread nD τ) arg14 fullShare o
        ∗ (iprop(owns (c : Thread nD τ) arg16 fullShare z ∗ owns (c : Thread nD τ) arg19 fullShare s ∗ owns (c : Thread nD τ) arg14 fullShare (suml j (k0_pay28 (zblk z 0 j) (zblk z 1 j) s) o)) -∗ K ⟨⟩))
      ⊢ wp frame (wpE (defs₀ (F := F)) Variants.none c none) Set.univ
          (cc0_simclr_fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [owns_eq_rep]
  simp only [cc0_simclr_fused_eq_skeleton]; unfold cc0_simclr_fused_skel
  have hlt := j.isLt
  have d1 : ¬ k0_cond1 i = 1#1 := by rw [c1]; omega
  have d8 : ¬ k0_cond8 i = 1#1 := by rw [c8]; omega
  have d11 : ¬ k0_cond11 i = 1#1 := by rw [c11]; omega
  have d14 : k0_cond14 i = 1#1 := by rw [c14]; omega
  have r10 : arg16.view.readAt (Elt F) (Rect.unit (s := S2x4x2048x128) (k0_off10 i) S1x1x2048x128.size (k0_off10_inb i d14)).toLoadRect (arg16.view.rep z) = zblk z 0 j :=
    View.readAt_rep_unit _ _ _ (off10 i j hj) _
  have r11 : arg16.view.readAt (Elt F) (Rect.unit (s := S2x4x2048x128) (k0_off11 i) S1x1x2048x128.size (k0_off11_inb i d14)).toLoadRect (arg16.view.rep z) = zblk z 1 j :=
    View.readAt_rep_unit _ _ _ (off11 i j hj) _
  have r19 : arg19.view.readAt (Elt F) (Rect.unit (s := S1x128) ![0, 0] S1x128.size inb_S1x128_S1x128_0_0).toLoadRect (arg19.view.rep s) = s :=
    View.readAt_rep_full _ _ _
  have r14 : arg14.view.readAt (Elt F) (Rect.unit (s := S1x128) ![0, 0] S1x128.size inb_S1x128_S1x128_0_0).toLoadRect (arg14.view.rep o) = o :=
    View.readAt_rep_full _ _ _
  have e1 := c15 i
  have e2 := c16 i
  by_cases h0 : (i 1).val = 12
  · replace e1 := e1.mpr h0
    replace e2 := fun h => (e2.mp h) h0
    have hs : suml j (k0_pay28 (zblk z 0 j) (zblk z 1 j) s) o = k0_pay28 (zblk z 0 j) (zblk z 1 j) s := if_pos (by omega)
    rw [hs]
    iintro ⟨H16, H19, H14, HK⟩
    sl_exec (disch := first | sl_exact e1 | sl_exact e2)
    sl_step
    iapply HK
    isplitl [H16]; · iexact H16
    isplitl [H19]; · iexact H19
    iapply (pointsTo_rep_of_read _ _ _ _ _ ?p14) $$ H14
    case p14 =>
      refine (View.read_writes_full _ _ _ _ _).trans ?_
      rfl
  · replace e2 := e2.mpr h0
    replace e1 := fun h => h0 (e1.mp h)
    have hs : suml j (k0_pay28 (zblk z 0 j) (zblk z 1 j) s) o = k0_pay23 (k0_pay28 (zblk z 0 j) (zblk z 1 j) s) o := if_neg (by omega)
    rw [hs]
    iintro ⟨H16, H19, H14, HK⟩
    sl_exec (disch := first | sl_exact e1 | sl_exact e2)
    sl_step
    iapply HK
    isplitl [H16]; · iexact H16
    isplitl [H19]; · iexact H19
    iapply (pointsTo_rep_of_read _ _ _ _ _ ?p14) $$ H14
    case p14 =>
      refine (View.read_writes_full _ _ _ _ _).trans ?_
      rfl

/-- At the last four points of the first half's pass the body does nothing. -/
theorem run0 (hh : (i 0).val = 0) (hj : 12 ≤ (i 1).val) (K : PUnit → sProp 𝕄) :
    K ⟨⟩ ⊢ wp frame (wpE (defs₀ (F := F)) Variants.none c none) Set.univ
          (cc0_simclr_fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_simclr_fused_eq_skeleton]; unfold cc0_simclr_fused_skel
  have d1 : ¬ k0_cond1 i = 1#1 := by rw [c1]; omega
  have d8 : ¬ k0_cond8 i = 1#1 := by rw [c8]; omega
  have d11 : ¬ k0_cond11 i = 1#1 := by rw [c11]; omega
  have d14 : ¬ k0_cond14 i = 1#1 := by rw [c14]; omega
  iintro HK
  sl_exec
  sl_step
  iexact HK

end

end Cert.KernelIdeal.Hand

end
-- ==== Proof.State.lean ====
/-
  What the scratch buffers hold between the points of the grid.
-/
module

public import proofs.«01_k».proof.Proof.Run
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F] [∀ e, Nonempty (Elt F e)]

local notation "𝕄" => MT nD τ sig Unit (Elt F) ℕ (UR sig nD τ) ℕ

open Idealize.ShloMosaic.ValueIdx

/-! ## Reading back the blocks -/

/-- Two half blocks side by side: `p` in the first 128 columns, `q` in the last 128. -/
def cols (p q : Vec F S1x2048x128 .f32) : Vec F S1x2048x256 .f32 := fun y =>
  if h : (y 2).val < 128 then p (ix3 (y 0) (y 1) ⟨(y 2).val, h⟩)
  else q (ix3 (y 0) (y 1) ⟨(y 2).val - 128, by have : (y 2).val < 256 := (y 2).isLt; omega⟩)

/-- The block just written is its two halves side by side. -/
theorem ablk_aput_same (ab : Vec F S4x2048x256 .f32) (j : Fin 4) (p q : Vec F S1x2048x128 .f32) : ablk (aput ab j p q) j = cols p q := by
  funext y
  have y0 : (y 0).val < 1 := (y 0).isLt
  have y1 : (y 1).val < 2048 := (y 1).isLt
  have y2 : (y 2).val < 256 := (y 2).isLt
  unfold ablk aput VecWindow.window
  set e := (Rect.unit (s := S4x2048x256) ![j.val, 0, 0] S1x2048x256.size _).emb y with he
  have e0 : (e 0).val = j.val + 1 * (y 0).val := rfl
  have e1 : (e 1).val = 0 + 1 * (y 1).val := rfl
  have e2 : (e 2).val = 0 + 1 * (y 2).val := rfl
  unfold cols
  by_cases h : (y 2).val < 128
  · rw [dif_pos h]
    unfold VecWindow.put
    rw [dif_neg (fun hh => by have := (hh 2).1; simp at this; omega), dif_pos (fun a => by
      fin_cases a <;> simp [S1x2048x128] <;> omega)]
    refine congrArg p (funext fun a => Fin.ext ?_)
    fin_cases a
    · show (e 0).val - j.val = (y 0).val; omega
    · show (e 1).val - 0 = (y 1).val; omega
    · show (e 2).val - 0 = (y 2).val; omega
  · rw [dif_neg h]
    unfold VecWindow.put
    rw [dif_pos (fun a => by
      fin_cases a <;> simp [S1x2048x128] <;> omega)]
    refine congrArg q (funext fun a => Fin.ext ?_)
    fin_cases a
    · show (e 0).val - j.val = (y 0).val; omega
    · show (e 1).val - 0 = (y 1).val; omega
    · show (e 2).val - 128 = (y 2).val - 128; omega

/-- The other blocks are as they were. -/
theorem ablk_aput_ne (ab : Vec F S4x2048x256 .f32) {j j' : Fin 4} (h : j' ≠ j) (p q : Vec F S1x2048x128 .f32) : ablk (aput ab j p q) j' = ablk ab j' := by
  have hv : j'.val ≠ j.val := fun e => h (Fin.ext e)
  unfold ablk aput
  rw [VecWindow.window_put_of_disjoint _ _ _ _ _ _ _ (0 : Fin 3) (by simp [S1x2048x128, S1x2048x256]; omega),
    VecWindow.window_put_of_disjoint _ _ _ _ _ _ _ (0 : Fin 3) (by simp [S1x2048x128, S1x2048x256]; omega)]

theorem zblk_zput_same (z : Vec F S2x4x2048x128 .f32) (h : Fin 2) (j : Fin 4) (p : Vec F S1x1x2048x128 .f32) : zblk (zput z h j p) h j = p :=
  VecWindow.window_put_same _ _ _ _ _

theorem zblk_zput_ne (z : Vec F S2x4x2048x128 .f32) {h h' : Fin 2} {j j' : Fin 4} (hne : h' ≠ h ∨ j' ≠ j) (p : Vec F S1x1x2048x128 .f32) :
    zblk (zput z h j p) h' j' = zblk z h' j' := by
  unfold zblk zput
  rcases hne with hne | hne
  · have hv : h'.val ≠ h.val := fun e => hne (Fin.ext e)
    exact VecWindow.window_put_of_disjoint _ _ _ _ _ _ _ (0 : Fin 4) (by simp [S1x1x2048x128]; omega)
  · have hv : j'.val ≠ j.val := fun e => hne (Fin.ext e)
    exact VecWindow.window_put_of_disjoint _ _ _ _ _ _ _ (1 : Fin 4) (by simp [S1x1x2048x128]; omega)

/-! ## The values the kernel computes, block by block -/

/-- The operands of the kernel as its blocks: the rows of half `h`, block `j`, and the layers' parameters. -/
structure Operands (F : FTy → Type) where
  x : ℕ → ℕ → Vec F S2048x512 .f32
  w1 : Vec F S512x256 .bf16
  b1 : Vec F S1x256 .f32
  g1 : Vec F S1x256 .f32
  be1 : Vec F S1x256 .f32
  w2 : Vec F S256x256 .bf16
  b2 : Vec F S1x256 .f32
  g2 : Vec F S1x256 .f32
  be2 : Vec F S1x256 .f32
  w3 : Vec F S256x128 .bf16
  b3 : Vec F S1x128 .f32

namespace Operands

variable (D : Operands F)

/-- Block `j` of half `h` after the first layer. -/
def a1 (h j : ℕ) : Vec F S1x2048x256 .f32 := cols (k0_pay2 (D.x h j) D.w1 D.b1) (k0_pay3 (D.x h j) D.w1 D.b1)
/-- The first layer's column sums over the blocks up to `j`. -/
def st1 (h : ℕ) : ℕ → Vec F S2x256 .f32
  | 0 => k0_pay5 (D.x h 0) D.w1 D.b1
  | j + 1 => k0_pay6 (D.x h (j + 1)) D.w1 D.b1 (st1 h j)
/-- Block `j` of half `h` after the second layer, as computed. -/
def y2 (h j : ℕ) : FVec F S2048x256 .f32 := k0_pay24 (D.a1 h j) (D.st1 h 3) D.g1 D.be1 D.w2 D.b2
/-- The same as stored. -/
def a2 (h j : ℕ) : Vec F S1x2048x256 .f32 :=
  cols (k0_pay13 (k0_pay25 (D.a1 h j) (D.st1 h 3) D.g1 D.be1 D.w2 D.b2)) (k0_pay14 (D.y2 h j))
/-- The second layer's column sums over the blocks up to `j`. -/
def st2 (h : ℕ) : ℕ → Vec F S2x256 .f32
  | 0 => k0_pay16 (D.y2 h 0)
  | j + 1 => k0_pay17 (D.y2 h (j + 1)) (st2 h j)
/-- Block `j` of half `h` after the third layer. -/
def y3 (h j : ℕ) : FVec F S2048x128 .f32 := k0_pay26 (D.a2 h j) (D.st2 h 3) D.g2 D.be2 D.w3 D.b3
/-- The squared norms of its rows. -/
def n3 (h j : ℕ) : FVec F S2048x1 .f32 := k0_pay27 (D.a2 h j) (D.st2 h 3) D.g2 D.be2 D.w3 D.b3
/-- Its rows divided by their norms. -/
def zb (h j : ℕ) : Vec F S1x1x2048x128 .f32 := k0_pay19 (D.y3 h j) (D.n3 h j) tsq
/-- The sum of the normalised rows over the blocks up to the `n`-th, the first half's four before the second's. -/
def s : ℕ → Vec F S1x128 .f32
  | 0 => k0_pay21 (D.y3 0 0) (D.n3 0 0) tsq
  | n + 1 => k0_pay22 (D.y3 ((n + 1) / 4) ((n + 1) % 4)) (D.n3 ((n + 1) / 4) ((n + 1) % 4)) tsq (s n)
/-- The loss of the pair of blocks `j`. -/
def l (j : ℕ) : FVec F S1x128 .f32 := k0_pay28 (D.zb 0 j) (D.zb 1 j) (D.s 7)
/-- The losses added up over the pairs of blocks up to `j`. -/
def out : ℕ → Vec F S1x128 .f32
  | 0 => D.l 0
  | j + 1 => k0_pay23 (D.l (j + 1)) (out j)

theorem sum1_eq (h : ℕ) (j : Fin 4) (st : Vec F S2x256 .f32) (hst : 1 ≤ j.val → st = D.st1 h (j.val - 1)) :
    sum1 j (D.x h j.val) D.w1 D.b1 st = D.st1 h j.val := by
  obtain ⟨jv, hj⟩ := j
  cases jv with
  | zero => rfl
  | succ n => rw [hst (by simp)]; rfl
theorem sum2_eq (h : ℕ) (j : Fin 4) (st : Vec F S2x256 .f32) (hst : 1 ≤ j.val → st = D.st2 h (j.val - 1)) :
    sum2 j (D.y2 h j.val) st = D.st2 h j.val := by
  obtain ⟨jv, hj⟩ := j
  cases jv with
  | zero => rfl
  | succ n => rw [hst (by simp)]; rfl
theorem sumz_eq (h : Fin 2) (j : Fin 4) (s : Vec F S1x128 .f32) (hs : 1 ≤ 4 * h.val + j.val → s = D.s (4 * h.val + j.val - 1)) :
    sumz h j (D.y3 h.val j.val) (D.n3 h.val j.val) s = D.s (4 * h.val + j.val) := by
  have hj := j.isLt
  obtain ⟨n, hn⟩ : ∃ n, n = 4 * h.val + j.val := ⟨_, rfl⟩
  rw [← hn] at hs ⊢
  cases n with
  | zero =>
    have h0 : h.val = 0 := by omega
    have j0 : j.val = 0 := by omega
    unfold sumz; rw [if_pos ⟨h0, j0⟩, h0, j0]; rfl
  | succ n =>
    have e1 : (n + 1) / 4 = h.val := by omega
    have e2 : (n + 1) % 4 = j.val := by omega
    unfold sumz; rw [if_neg (by omega), hs (by omega)]
    show _ = k0_pay22 (D.y3 ((n + 1) / 4) ((n + 1) % 4)) (D.n3 ((n + 1) / 4) ((n + 1) % 4)) tsq (D.s n)
    rw [e1, e2]; rfl
theorem suml_eq (j : Fin 4) (o : Vec F S1x128 .f32) (ho : 1 ≤ j.val → o = D.out (j.val - 1)) :
    suml j (D.l j.val) o = D.out j.val := by
  obtain ⟨jv, hj⟩ := j
  cases jv with
  | zero => rfl
  | succ n => rw [ho (by simp)]; rfl

/-! ## What the scratch buffers hold before a point -/

/-- Before point `(h, j)` (`j` up to 16): the activations' blocks written so far in the half's current pass, the column
    sums and the running sum of rows up to the last block added, and the normalised rows of the blocks done. -/
structure Inv (h j : ℕ) (ab : Vec F S4x2048x256 .f32) (z : Vec F S2x4x2048x128 .f32) (t1 t2 : Vec F S2x256 .f32) (s : Vec F S1x128 .f32) : Prop where
  first : ∀ j' : Fin 4, j'.val < j → j ≤ j'.val + 4 → ablk ab j' = D.a1 h j'.val
  second : ∀ j' : Fin 4, j'.val + 4 < j → ablk ab j' = D.a2 h j'.val
  sums1 : 1 ≤ j → t1 = D.st1 h (min (j - 1) 3)
  sums2 : 5 ≤ j → t2 = D.st2 h (min (j - 5) 3)
  rows : ∀ h' : Fin 2, ∀ j' : Fin 4, h'.val < h ∨ (h'.val = h ∧ j'.val + 8 < j) → zblk z h' j' = D.zb h'.val j'.val
  sum : 1 ≤ h ∨ 9 ≤ j → s = D.s (4 * h + min (j - 8) 4 - 1)

variable {D} {h : ℕ} {ab : Vec F S4x2048x256 .f32} {z : Vec F S2x4x2048x128 .f32} {t1 t2 : Vec F S2x256 .f32} {s : Vec F S1x128 .f32}

/-- At the start nothing is asked. -/
theorem Inv.start : D.Inv 0 0 ab z t1 t2 s :=
  ⟨fun _ h => absurd h (by omega), fun _ h => absurd h (by omega), fun h => absurd h (by omega), fun h => absurd h (by omega),
    fun _ _ h => absurd h (by omega), fun h => absurd h (by omega)⟩

/-- From the end of the first half's pass to the start of the second's. -/
theorem Inv.next (hI : D.Inv h 16 ab z t1 t2 s) : D.Inv (h + 1) 0 ab z t1 t2 s :=
  ⟨fun _ h => absurd h (by omega), fun _ h => absurd h (by omega), fun h => absurd h (by omega), fun h => absurd h (by omega),
    fun h' j' hh => hI.rows h' j' (by have := j'.isLt; omega), fun _ => by rw [hI.sum (by omega)]; congr 1⟩

/-- A point of the first layer. -/
theorem Inv.step1 (j : Fin 4) (hI : D.Inv h j.val ab z t1 t2 s) :
    D.Inv h (j.val + 1) (aput ab j (k0_pay2 (D.x h j.val) D.w1 D.b1) (k0_pay3 (D.x h j.val) D.w1 D.b1)) z (sum1 j (D.x h j.val) D.w1 D.b1 t1) t2 s where
  first j' h1 h2 := by
    by_cases e : j' = j
    · subst e; exact ablk_aput_same _ _ _ _
    · rw [ablk_aput_ne _ e]
      exact hI.first j' (by have : j'.val ≠ j.val := fun k => e (Fin.ext k); omega) (by have := j.isLt; omega)
  second j' h1 := absurd h1 (by have := j.isLt; omega)
  sums1 _ := by
    have := j.isLt
    rw [D.sum1_eq h j t1 (fun h1 => by rw [hI.sums1 h1]; congr 1; omega)]
    congr 1; omega
  sums2 h1 := absurd h1 (by have := j.isLt; omega)
  rows h' j' hh := hI.rows h' j' (by have := j.isLt; omega)
  sum hh := by
    have := j.isLt
    rw [hI.sum (by omega)]; congr 2; omega

/-- A point of the second layer. -/
theorem Inv.step2 (j : Fin 4) (hI : D.Inv h (j.val + 4) ab z t1 t2 s) :
    D.Inv h (j.val + 4 + 1) (aput ab j (k0_pay13 (k0_pay25 (ablk ab j) t1 D.g1 D.be1 D.w2 D.b2)) (k0_pay14 (k0_pay24 (ablk ab j) t1 D.g1 D.be1 D.w2 D.b2)))
      z t1 (sum2 j (k0_pay24 (ablk ab j) t1 D.g1 D.be1 D.w2 D.b2) t2) s := by
  have hj := j.isLt
  have e1 : ablk ab j = D.a1 h j.val := hI.first j (by omega) (by omega)
  have e2 : t1 = D.st1 h 3 := by rw [hI.sums1 (by omega)]; congr 1; omega
  rw [e1]; subst e2
  exact {
    first := fun j' h1 h2 => by
      have e : j' ≠ j := fun e => by subst e; omega
      rw [ablk_aput_ne _ e]; exact hI.first j' (by omega) (by omega)
    second := fun j' h1 => by
      by_cases e : j' = j
      · subst e; exact ablk_aput_same _ _ _ _
      · rw [ablk_aput_ne _ e]; exact hI.second j' (by have : j'.val ≠ j.val := fun k => e (Fin.ext k); omega)
    sums1 := fun _ => by congr 1
    sums2 := fun _ => by
      refine (D.sum2_eq h j t2 (fun h1 => by rw [hI.sums2 (by omega)]; congr 1; omega)).trans ?_
      congr 1; omega
    rows := fun h' j' hh => hI.rows h' j' (by omega)
    sum := fun hh => by rw [hI.sum (by omega)]; congr 2; omega }

/-- A point of the third layer. -/
theorem Inv.step3 (h : Fin 2) (j : Fin 4) (hI : D.Inv h.val (j.val + 8) ab z t1 t2 s) :
    D.Inv h.val (j.val + 8 + 1) ab (zput z h j (k0_pay19 (k0_pay26 (ablk ab j) t2 D.g2 D.be2 D.w3 D.b3) (k0_pay27 (ablk ab j) t2 D.g2 D.be2 D.w3 D.b3) tsq))
      t1 t2 (sumz h j (k0_pay26 (ablk ab j) t2 D.g2 D.be2 D.w3 D.b3) (k0_pay27 (ablk ab j) t2 D.g2 D.be2 D.w3 D.b3) s) := by
  have hj := j.isLt
  have e1 : ablk ab j = D.a2 h.val j.val := hI.second j (by omega)
  have e2 : t2 = D.st2 h.val 3 := by rw [hI.sums2 (by omega)]; congr 1; omega
  rw [e1]; subst e2
  exact {
    first := fun j' h1 h2 => absurd h2 (by omega)
    second := fun j' h1 => hI.second j' (by omega)
    sums1 := fun _ => by rw [hI.sums1 (by omega)]; congr 1
    sums2 := fun _ => by congr 1
    rows := fun h' j' hh => by
      by_cases e : h' = h ∧ j' = j
      · obtain ⟨e, e'⟩ := e; subst e; subst e'; exact zblk_zput_same _ _ _ _
      · rw [zblk_zput_ne _ (by by_cases k : h' = h; exacts [.inr fun k' => e ⟨k, k'⟩, .inl k])]
        refine hI.rows h' j' ?_
        rcases hh with hh | ⟨hh, hh'⟩
        · exact .inl hh
        · have : j' ≠ j := fun k => e ⟨Fin.ext hh, k⟩
          have : j'.val ≠ j.val := fun k => this (Fin.ext k)
          exact .inr ⟨hh, by omega⟩
    sum := fun hh => by
      refine (D.sumz_eq h j s (fun h1 => by rw [hI.sum (by omega)]; congr 1; omega)).trans ?_
      congr 1; omega }

/-- A point that leaves the scratch buffers as they are. -/
theorem Inv.step4 {j : ℕ} (hj : 12 ≤ j) (hI : D.Inv h j ab z t1 t2 s) : D.Inv h (j + 1) ab z t1 t2 s where
  first j' h1 h2 := absurd h2 (by have := j'.isLt; omega)
  second j' h1 := hI.second j' (by have := j'.isLt; omega)
  sums1 _ := by rw [hI.sums1 (by omega)]; congr 1; omega
  sums2 _ := by rw [hI.sums2 (by omega)]; congr 1; omega
  rows h' j' hh := hI.rows h' j' (by have := j'.isLt; omega)
  sum hh := by rw [hI.sum (by omega)]; congr 2; omega

end Operands

end Cert.KernelIdeal.Hand

end
-- ==== Proof.Body.lean ====
/-
  The run of the whole launch, and the frame that follows from it.
-/
module

public import proofs.«01_k».proof.Proof.State
public import proofs.«01_k».proof.Proof.Gen.KernelIdeal.Points

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The `n`-th point of the grid. -/
def pt (n : ℕ) : Fin cfg0.N := ⟨n % 32, by rw [show cfg0.N = 32 from N_0]; exact Nat.mod_lt _ (by decide)⟩
theorem pt_val (t : Fin cfg0.N) : pt t.val = t := Fin.ext (Nat.mod_eq_of_lt (lt_of_lt_of_eq t.isLt N_0))

/-- The kernel's operands on core `c`: the blocks its windows hold. -/
def ops (c : Dev nD) : Operands F where
  x h j := if h = 0 then iblk m c 0 (pt (16 * h + j)) else iblk m c 1 (pt (16 * h + j))
  w1 := iblk m c 2 (pt 0)
  b1 := iblk m c 3 (pt 0)
  g1 := iblk m c 4 (pt 0)
  be1 := iblk m c 5 (pt 0)
  w2 := iblk m c 6 (pt 0)
  b2 := iblk m c 7 (pt 0)
  g2 := iblk m c 8 (pt 0)
  be2 := iblk m c 9 (pt 0)
  w3 := iblk m c 10 (pt 0)
  b3 := iblk m c 11 (pt 0)
theorem iblk_w1 (c : Dev nD) (t : Fin cfg0.N) : iblk m c 2 t = (ops m c).w1 := rfl
theorem iblk_b1 (c : Dev nD) (t : Fin cfg0.N) : iblk m c 3 t = (ops m c).b1 := rfl
theorem iblk_g1 (c : Dev nD) (t : Fin cfg0.N) : iblk m c 4 t = (ops m c).g1 := rfl
theorem iblk_be1 (c : Dev nD) (t : Fin cfg0.N) : iblk m c 5 t = (ops m c).be1 := rfl
theorem iblk_w2 (c : Dev nD) (t : Fin cfg0.N) : iblk m c 6 t = (ops m c).w2 := rfl
theorem iblk_b2 (c : Dev nD) (t : Fin cfg0.N) : iblk m c 7 t = (ops m c).b2 := rfl
theorem iblk_g2 (c : Dev nD) (t : Fin cfg0.N) : iblk m c 8 t = (ops m c).g2 := rfl
theorem iblk_be2 (c : Dev nD) (t : Fin cfg0.N) : iblk m c 9 t = (ops m c).be2 := rfl
theorem iblk_w3 (c : Dev nD) (t : Fin cfg0.N) : iblk m c 10 t = (ops m c).w3 := rfl
theorem iblk_b3 (c : Dev nD) (t : Fin cfg0.N) : iblk m c 11 t = (ops m c).b3 := rfl

/-- The scratch buffers before point `(h, j)`. -/
def PhiS (c : Dev nD) (h j : ℕ) : sProp 𝕄 :=
  iprop(∃ ab z t1 t2 s, ⌜(ops m c).Inv h j ab z t1 t2 s⌝
    ∗ owns (c : Thread nD τ) (Memref.whole cc0_scratch0) fullShare ab ∗ owns (c : Thread nD τ) (Memref.whole cc0_scratch1) fullShare z
    ∗ owns (c : Thread nD τ) (Memref.whole cc0_scratch2) fullShare t1 ∗ owns (c : Thread nD τ) (Memref.whole cc0_scratch3) fullShare t2
    ∗ owns (c : Thread nD τ) (Memref.whole cc0_scratch4) fullShare s ∗ ∃ r, prngReg c r)

/-- The proof data of the launch on core `c`. -/
def dats (_ : Fin 1) (c : Dev nD) : Dat τ (Elt F) Unit ℕ (UR sig nD τ) ℕ cfg0 c where
  A w := V m c (Pipeline.arrRef spec0 w)
  after := fun
    | 0, t => iblk m c 0 t
    | 1, t => iblk m c 1 t
    | 2, t => iblk m c 2 t
    | 3, t => iblk m c 3 t
    | 4, t => iblk m c 4 t
    | 5, t => iblk m c 5 t
    | 6, t => iblk m c 6 t
    | 7, t => iblk m c 7 t
    | 8, t => iblk m c 8 t
    | 9, t => iblk m c 9 t
    | 10, t => iblk m c 10 t
    | 11, t => iblk m c 11 t
    | 12, t => (ops m c).out (t.val - 28)
  Φ t := PhiS m c (t.val / 16) (t.val % 16)
  q _ := fullShare
  owed _ := 0

theorem A_eq (c : Dev nD) (w : Fin cfg0.W) : (dats m 0 c).A w = V m c (Pipeline.arrRef spec0 w) := by dsimp only [dats]

/-- The coordinates of a point, and when the output's window is idle, written back, or still unwritten. -/
theorem coords_0 : ∀ t : Fin cfg0.N, ((grid0.coords t) 0).val = t.val / 16 := by decide +kernel
theorem coords_1 : ∀ t : Fin cfg0.N, ((grid0.coords t) 1).val = t.val % 16 := by decide +kernel
theorem idle_lo : ∀ t : Fin cfg0.N, t.val < 28 → cfg0.idle 12 (cfg0.grid.coords t) = true := by decide +kernel
theorem idle_hi : ∀ t : Fin cfg0.N, 28 ≤ t.val → cfg0.idle 12 (cfg0.grid.coords t) = false := by decide +kernel
theorem flush_lo (t : Fin cfg0.N) (h : t.val < 28) : (cfg0.win 12).flush t = false := by
  have := flush0_12 (t := t)
  cases hh : (cfg0.win 12).flush t with
  | false => rfl
  | true => exact absurd (this.mp hh) (by omega)
theorem fresh_eq : ∀ n : ℕ, n < 32 → cfg0.fresh 12 n = decide (n ≤ 28)
  | 0, _ => rfl
  | n + 1, hn => by
    have hN : n < cfg0.N := by rw [show cfg0.N = 32 from N_0]; omega
    rw [Cfg.fresh_succ cfg0 12 n hN, fresh_eq n (by omega)]
    by_cases h : n < 28
    · rw [idle_lo ⟨n, hN⟩ h, decide_eq_true (by omega : n ≤ 28), decide_eq_true (by omega : n + 1 ≤ 28)]; simp
    · have hf : (cfg0.win 12).flush ⟨n, hN⟩ = false := by
        have := flush0_12 (t := ⟨n, hN⟩)
        cases hh : (cfg0.win 12).flush ⟨n, hN⟩ with
        | false => rfl
        | true => exact absurd (this.mp hh) (by show ¬ n % 32 = 31; omega)
      rw [idle_hi ⟨n, hN⟩ (by show 28 ≤ n; omega), hf, decide_eq_false (by omega : ¬ n + 1 ≤ 28)]; simp

/-- What the output's window holds when a point of the last phase's second half begins. -/
theorem before_out (c : Dev nD) (t : Fin cfg0.N) (ht : 28 < t.val) (d) : (dats m 0 c).before 12 t d = (ops m c).out (t.val - 1 - 28) := by
  have h32 : t.val < 32 := lt_of_lt_of_eq t.isLt N_0
  rw [(dats m 0 c).before_out_traj 12 rfl (fun _ _ => rfl) (fun t ht hi hf => by
    have h32 : t.val < 32 := lt_of_lt_of_eq t.isLt N_0
    rw [fresh_eq _ h32] at hf
    have : ¬ t.val ≤ 28 := of_decide_eq_false hf
    rw [idle_hi t (by omega)] at hi; exact absurd hi (by simp)) t.val t rfl d, fresh_eq _ h32, if_neg (by simpa using ht)]
  rfl

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = (ops m c).w1 :=
  before0_2_of m (dats m 0 c) (A_eq m c 2) (fun _ => rfl) t d
theorem before_3 (c : Dev nD) (t : Fin cfg0.N) (d) : (dats m 0 c).before 3 t d = (ops m c).b1 :=
  before0_3_of m (dats m 0 c) (A_eq m c 3) (fun _ => rfl) t d
theorem before_4 (c : Dev nD) (t : Fin cfg0.N) (d) : (dats m 0 c).before 4 t d = (ops m c).g1 :=
  before0_4_of m (dats m 0 c) (A_eq m c 4) (fun _ => rfl) t d
theorem before_5 (c : Dev nD) (t : Fin cfg0.N) (d) : (dats m 0 c).before 5 t d = (ops m c).be1 :=
  before0_5_of m (dats m 0 c) (A_eq m c 5) (fun _ => rfl) t d
theorem before_6 (c : Dev nD) (t : Fin cfg0.N) (d) : (dats m 0 c).before 6 t d = (ops m c).w2 :=
  before0_6_of m (dats m 0 c) (A_eq m c 6) (fun _ => rfl) t d
theorem before_7 (c : Dev nD) (t : Fin cfg0.N) (d) : (dats m 0 c).before 7 t d = (ops m c).b2 :=
  before0_7_of m (dats m 0 c) (A_eq m c 7) (fun _ => rfl) t d
theorem before_8 (c : Dev nD) (t : Fin cfg0.N) (d) : (dats m 0 c).before 8 t d = (ops m c).g2 :=
  before0_8_of m (dats m 0 c) (A_eq m c 8) (fun _ => rfl) t d
theorem before_9 (c : Dev nD) (t : Fin cfg0.N) (d) : (dats m 0 c).before 9 t d = (ops m c).be2 :=
  before0_9_of m (dats m 0 c) (A_eq m c 9) (fun _ => rfl) t d
theorem before_10 (c : Dev nD) (t : Fin cfg0.N) (d) : (dats m 0 c).before 10 t d = (ops m c).w3 :=
  before0_10_of m (dats m 0 c) (A_eq m c 10) (fun _ => rfl) t d
theorem before_11 (c : Dev nD) (t : Fin cfg0.N) (d) : (dats m 0 c).before 11 t d = (ops m c).b3 :=
  before0_11_of m (dats m 0 c) (A_eq m c 11) (fun _ => rfl) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    )
/-- The output's window after the point. -/
def outPost (c : Dev nD) (t : Fin cfg0.N) : sProp 𝕄 :=
  match cfg0.idle 12 (cfg0.grid.coords t) with
  | true =>
    match (cfg0.win 12).flush t with
    | false => iprop(∃ d, owns (c : Thread nD τ) (st0_12 t) fullShare ((dats m 0 c).before 12 t d))
    | true => owns (c : Thread nD τ) (st0_12 t) fullShare ((dats m 0 c).after 12 t)
  | false => owns (c : Thread nD τ) (st0_12 t) fullShare ((dats m 0 c).after 12 t)
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ outPost m c t)

/-- The scratch buffers after point `t`, from what they satisfy within its half. -/
theorem Phi_succ (c : Dev nD) (t : Fin cfg0.N) {h j : ℕ} (hh : t.val / 16 = h) (hj : t.val % 16 = j)
    (ab z t1 t2 s) (hI : (ops m c).Inv h (j + 1) ab z t1 t2 s) : (ops m c).Inv (t.succ.val / 16) (t.succ.val % 16) ab z t1 t2 s := by
  have e : t.succ.val = t.val + 1 := rfl
  rw [e]
  by_cases h15 : j = 15
  · rw [show (t.val + 1) / 16 = h + 1 by omega, show (t.val + 1) % 16 = 0 by omega]; rw [h15] at hI; exact hI.next
  · rw [show (t.val + 1) / 16 = h by omega, show (t.val + 1) % 16 = j + 1 by omega]; exact hI

/-- A point of the first layer on half 0. -/
theorem sound1_0 (c : Dev nD) (t : Fin cfg0.N) (j : Fin 4) (ht : t.val = 0 + j.val) : bodyPre m c t ⊢ wp frame (wpE (defs₀ (F := F)) Variants.none c none) Set.univ (bodyAt0 t) (fun _ => bodyPost m c t) := by
  unfold bodyPre bodyPost bodyAt0 outPost
  rw [show (dats m 0 c).owesAt () t.succ = (dats m 0 c).owesAt () t.castSucc from rfl]
  rw [idle_lo t (by omega), flush_lo t (by omega)]
  dsimp only
  rw [show (dats m 0 c).Φ t.castSucc = PhiS m c (t.val / 16) (t.val % 16) from rfl,
    show (dats m 0 c).Φ t.succ = PhiS m c (t.succ.val / 16) (t.succ.val % 16) from rfl]
  unfold PhiS
  simp only [before_0, before_1, before_2, before_3, before_4, before_5, before_6, before_7, before_8, before_9, before_10, before_11]
  iintro ⟨⟨%ab, %z, %t1, %t2, %s, %hI, Hab, Hz, H1, H2, Hs, Hg⟩, HO, ⟨%d0, A0⟩, ⟨%d1, A1⟩, ⟨%d2, A2⟩, ⟨%d3, A3⟩, ⟨%d4, A4⟩, ⟨%d5, A5⟩, ⟨%d6, A6⟩, ⟨%d7, A7⟩, ⟨%d8, A8⟩, ⟨%d9, A9⟩, ⟨%d10, A10⟩, ⟨%d11, A11⟩, A12⟩
  have hx : iblk m c 0 t = (ops m c).x 0 j.val := by
    show _ = iblk m c 0 (pt (16 * 0 + j.val))
    rw [show 16 * 0 + j.val = t.val by omega, pt_val]
  rw [show t.val / 16 = 0 by omega, show t.val % 16 = j.val by omega] at hI
  iapply (run1_0 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) j _ _ _ _ _ (by rw [coords_0]; omega) (by rw [coords_1]; omega) _)
  isplitl [A0]; · iexact A0
  isplitl [A2]; · iexact A2
  isplitl [A3]; · iexact A3
  isplitl [Hab]; · iexact Hab
  isplitl [H1]; · iexact H1
  iintro ⟨A0, A2, A3, Hab, H1⟩
  isplitl [Hab Hz H1 H2 Hs Hg]
  · iexists _, _, _, _, _
    isplitr
    · ipureintro
      exact Phi_succ m c t (h := 0) (j := j.val) (by omega) (by omega) _ _ _ _ _ (by have h := hI.step1 j; rw [← hx] at h; exact h)
    isplitl [Hab]; · iexact Hab
    isplitl [Hz]; · iexact Hz
    isplitl [H1]; · iexact H1
    isplitl [H2]; · iexact H2
    isplitl [Hs]; · iexact Hs
    iexact Hg
  isplitl [HO]; · iexact HO
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  iexact A12

/-- A point of the first layer on half 1. -/
theorem sound1_1 (c : Dev nD) (t : Fin cfg0.N) (j : Fin 4) (ht : t.val = 16 + j.val) : bodyPre m c t ⊢ wp frame (wpE (defs₀ (F := F)) Variants.none c none) Set.univ (bodyAt0 t) (fun _ => bodyPost m c t) := by
  unfold bodyPre bodyPost bodyAt0 outPost
  rw [show (dats m 0 c).owesAt () t.succ = (dats m 0 c).owesAt () t.castSucc from rfl]
  rw [idle_lo t (by omega), flush_lo t (by omega)]
  dsimp only
  rw [show (dats m 0 c).Φ t.castSucc = PhiS m c (t.val / 16) (t.val % 16) from rfl,
    show (dats m 0 c).Φ t.succ = PhiS m c (t.succ.val / 16) (t.succ.val % 16) from rfl]
  unfold PhiS
  simp only [before_0, before_1, before_2, before_3, before_4, before_5, before_6, before_7, before_8, before_9, before_10, before_11]
  iintro ⟨⟨%ab, %z, %t1, %t2, %s, %hI, Hab, Hz, H1, H2, Hs, Hg⟩, HO, ⟨%d0, A0⟩, ⟨%d1, A1⟩, ⟨%d2, A2⟩, ⟨%d3, A3⟩, ⟨%d4, A4⟩, ⟨%d5, A5⟩, ⟨%d6, A6⟩, ⟨%d7, A7⟩, ⟨%d8, A8⟩, ⟨%d9, A9⟩, ⟨%d10, A10⟩, ⟨%d11, A11⟩, A12⟩
  have hx : iblk m c 1 t = (ops m c).x 1 j.val := by
    show _ = iblk m c 1 (pt (16 * 1 + j.val))
    rw [show 16 * 1 + j.val = t.val by omega, pt_val]
  rw [show t.val / 16 = 1 by omega, show t.val % 16 = j.val by omega] at hI
  iapply (run1_1 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) j _ _ _ _ _ (by rw [coords_0]; omega) (by rw [coords_1]; omega) _)
  isplitl [A1]; · iexact A1
  isplitl [A2]; · iexact A2
  isplitl [A3]; · iexact A3
  isplitl [Hab]; · iexact Hab
  isplitl [H1]; · iexact H1
  iintro ⟨A1, A2, A3, Hab, H1⟩
  isplitl [Hab Hz H1 H2 Hs Hg]
  · iexists _, _, _, _, _
    isplitr
    · ipureintro
      exact Phi_succ m c t (h := 1) (j := j.val) (by omega) (by omega) _ _ _ _ _ (by have h := hI.step1 j; rw [← hx] at h; exact h)
    isplitl [Hab]; · iexact Hab
    isplitl [Hz]; · iexact Hz
    isplitl [H1]; · iexact H1
    isplitl [H2]; · iexact H2
    isplitl [Hs]; · iexact Hs
    iexact Hg
  isplitl [HO]; · iexact HO
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  iexact A12

/-- A point of the second layer. -/
theorem sound2 (c : Dev nD) (t : Fin cfg0.N) (h : Fin 2) (j : Fin 4) (ht : t.val = 16 * h.val + j.val + 4) : bodyPre m c t ⊢ wp frame (wpE (defs₀ (F := F)) Variants.none c none) Set.univ (bodyAt0 t) (fun _ => bodyPost m c t) := by
  unfold bodyPre bodyPost bodyAt0 outPost
  rw [show (dats m 0 c).owesAt () t.succ = (dats m 0 c).owesAt () t.castSucc from rfl]
  rw [idle_lo t (by omega), flush_lo t (by omega)]
  dsimp only
  rw [show (dats m 0 c).Φ t.castSucc = PhiS m c (t.val / 16) (t.val % 16) from rfl,
    show (dats m 0 c).Φ t.succ = PhiS m c (t.succ.val / 16) (t.succ.val % 16) from rfl]
  unfold PhiS
  simp only [before_0, before_1, before_2, before_3, before_4, before_5, before_6, before_7, before_8, before_9, before_10, before_11]
  iintro ⟨⟨%ab, %z, %t1, %t2, %s, %hI, Hab, Hz, H1, H2, Hs, Hg⟩, HO, ⟨%d0, A0⟩, ⟨%d1, A1⟩, ⟨%d2, A2⟩, ⟨%d3, A3⟩, ⟨%d4, A4⟩, ⟨%d5, A5⟩, ⟨%d6, A6⟩, ⟨%d7, A7⟩, ⟨%d8, A8⟩, ⟨%d9, A9⟩, ⟨%d10, A10⟩, ⟨%d11, A11⟩, A12⟩
  rw [show t.val / 16 = h.val by omega, show t.val % 16 = j.val + 4 by omega] at hI
  iapply (run2 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) j _ _ _ _ _ _ _ (by rw [coords_1]; omega) _)
  isplitl [A4]; · iexact A4
  isplitl [A5]; · iexact A5
  isplitl [A6]; · iexact A6
  isplitl [A7]; · iexact A7
  isplitl [H1]; · iexact H1
  isplitl [Hab]; · iexact Hab
  isplitl [H2]; · iexact H2
  iintro ⟨A4, A5, A6, A7, H1, Hab, H2⟩
  isplitl [Hab Hz H1 H2 Hs Hg]
  · iexists _, _, _, _, _
    isplitr
    · ipureintro
      exact Phi_succ m c t (h := h.val) (j := j.val + 4) (by omega) (by omega) _ _ _ _ _ (hI.step2 j)
    isplitl [Hab]; · iexact Hab
    isplitl [Hz]; · iexact Hz
    isplitl [H1]; · iexact H1
    isplitl [H2]; · iexact H2
    isplitl [Hs]; · iexact Hs
    iexact Hg
  isplitl [HO]; · iexact HO
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  iexact A12

/-- A point of the third layer. -/
theorem sound3 (c : Dev nD) (t : Fin cfg0.N) (h : Fin 2) (j : Fin 4) (ht : t.val = 16 * h.val + j.val + 8) : bodyPre m c t ⊢ wp frame (wpE (defs₀ (F := F)) Variants.none c none) Set.univ (bodyAt0 t) (fun _ => bodyPost m c t) := by
  unfold bodyPre bodyPost bodyAt0 outPost
  rw [show (dats m 0 c).owesAt () t.succ = (dats m 0 c).owesAt () t.castSucc from rfl]
  rw [idle_lo t (by omega), flush_lo t (by omega)]
  dsimp only
  rw [show (dats m 0 c).Φ t.castSucc = PhiS m c (t.val / 16) (t.val % 16) from rfl,
    show (dats m 0 c).Φ t.succ = PhiS m c (t.succ.val / 16) (t.succ.val % 16) from rfl]
  unfold PhiS
  simp only [before_0, before_1, before_2, before_3, before_4, before_5, before_6, before_7, before_8, before_9, before_10, before_11]
  iintro ⟨⟨%ab, %z, %t1, %t2, %s, %hI, Hab, Hz, H1, H2, Hs, Hg⟩, HO, ⟨%d0, A0⟩, ⟨%d1, A1⟩, ⟨%d2, A2⟩, ⟨%d3, A3⟩, ⟨%d4, A4⟩, ⟨%d5, A5⟩, ⟨%d6, A6⟩, ⟨%d7, A7⟩, ⟨%d8, A8⟩, ⟨%d9, A9⟩, ⟨%d10, A10⟩, ⟨%d11, A11⟩, A12⟩
  rw [show t.val / 16 = h.val by omega, show t.val % 16 = j.val + 8 by omega] at hI
  iapply (run3 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) h j _ _ _ _ _ _ _ _ (by rw [coords_0]; omega) (by rw [coords_1]; omega) _)
  isplitl [A8]; · iexact A8
  isplitl [A9]; · iexact A9
  isplitl [A10]; · iexact A10
  isplitl [A11]; · iexact A11
  isplitl [H2]; · iexact H2
  isplitl [Hab]; · iexact Hab
  isplitl [Hz]; · iexact Hz
  isplitl [Hs]; · iexact Hs
  iintro ⟨A8, A9, A10, A11, H2, Hab, Hz, Hs⟩
  isplitl [Hab Hz H1 H2 Hs Hg]
  · iexists _, _, _, _, _
    isplitr
    · ipureintro
      exact Phi_succ m c t (h := h.val) (j := j.val + 8) (by omega) (by omega) _ _ _ _ _ (hI.step3 h j)
    isplitl [Hab]; · iexact Hab
    isplitl [Hz]; · iexact Hz
    isplitl [H1]; · iexact H1
    isplitl [H2]; · iexact H2
    isplitl [Hs]; · iexact Hs
    iexact Hg
  isplitl [HO]; · iexact HO
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  iexact A12

/-- A point that does nothing. -/
theorem sound0 (c : Dev nD) (t : Fin cfg0.N) (h1 : 12 ≤ t.val) (h2 : t.val < 16) : bodyPre m c t ⊢ wp frame (wpE (defs₀ (F := F)) Variants.none c none) Set.univ (bodyAt0 t) (fun _ => bodyPost m c t) := by
  unfold bodyPre bodyPost bodyAt0 outPost
  rw [show (dats m 0 c).owesAt () t.succ = (dats m 0 c).owesAt () t.castSucc from rfl]
  rw [idle_lo t (by omega), flush_lo t (by omega)]
  dsimp only
  rw [show (dats m 0 c).Φ t.castSucc = PhiS m c (t.val / 16) (t.val % 16) from rfl,
    show (dats m 0 c).Φ t.succ = PhiS m c (t.succ.val / 16) (t.succ.val % 16) from rfl]
  unfold PhiS
  simp only [before_0, before_1, before_2, before_3, before_4, before_5, before_6, before_7, before_8, before_9, before_10, before_11]
  iintro ⟨⟨%ab, %z, %t1, %t2, %s, %hI, Hab, Hz, H1, H2, Hs, Hg⟩, HO, ⟨%d0, A0⟩, ⟨%d1, A1⟩, ⟨%d2, A2⟩, ⟨%d3, A3⟩, ⟨%d4, A4⟩, ⟨%d5, A5⟩, ⟨%d6, A6⟩, ⟨%d7, A7⟩, ⟨%d8, A8⟩, ⟨%d9, A9⟩, ⟨%d10, A10⟩, ⟨%d11, A11⟩, A12⟩
  iapply (run0 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (by rw [coords_0]; omega) (by rw [coords_1]; omega) _)
  isplitl [Hab Hz H1 H2 Hs Hg]
  · iexists ab, z, t1, t2, s
    isplitr
    · ipureintro
      exact Phi_succ m c t (h := t.val / 16) (j := t.val % 16) (by omega) (by omega) _ _ _ _ _ (hI.step4 (by omega))
    isplitl [Hab]; · iexact Hab
    isplitl [Hz]; · iexact Hz
    isplitl [H1]; · iexact H1
    isplitl [H2]; · iexact H2
    isplitl [Hs]; · iexact Hs
    iexact Hg
  isplitl [HO]; · iexact HO
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  iexact A12

/-- A point of the loss. -/
theorem sound4 (c : Dev nD) (t : Fin cfg0.N) (j : Fin 4) (ht : t.val = 28 + j.val) : bodyPre m c t ⊢ wp frame (wpE (defs₀ (F := F)) Variants.none c none) Set.univ (bodyAt0 t) (fun _ => bodyPost m c t) := by
  unfold bodyPre bodyPost bodyAt0 outPost
  rw [show (dats m 0 c).owesAt () t.succ = (dats m 0 c).owesAt () t.castSucc from rfl]
  rw [idle_hi t (by omega)]
  dsimp only
  rw [show (dats m 0 c).Φ t.castSucc = PhiS m c (t.val / 16) (t.val % 16) from rfl,
    show (dats m 0 c).Φ t.succ = PhiS m c (t.succ.val / 16) (t.succ.val % 16) from rfl]
  unfold PhiS
  simp only [before_0, before_1, before_2, before_3, before_4, before_5, before_6, before_7, before_8, before_9, before_10, before_11]
  iintro ⟨⟨%ab, %z, %t1, %t2, %s, %hI, Hab, Hz, H1, H2, Hs, Hg⟩, HO, ⟨%d0, A0⟩, ⟨%d1, A1⟩, ⟨%d2, A2⟩, ⟨%d3, A3⟩, ⟨%d4, A4⟩, ⟨%d5, A5⟩, ⟨%d6, A6⟩, ⟨%d7, A7⟩, ⟨%d8, A8⟩, ⟨%d9, A9⟩, ⟨%d10, A10⟩, ⟨%d11, A11⟩, ⟨%d12, A12⟩⟩
  rw [show t.val / 16 = 1 by omega, show t.val % 16 = j.val + 12 by omega] at hI
  have hout : suml j (k0_pay28 (zblk z 0 j) (zblk z 1 j) s) ((dats m 0 c).before 12 t d12) = (ops m c).out j.val := by
    have e0 := hI.rows 0 j (.inl (by decide))
    have e1 := hI.rows 1 j (.inr ⟨rfl, by omega⟩)
    have es : s = (ops m c).s 7 := by rw [hI.sum (.inl (by omega))]; congr 1; omega
    rw [e0, e1, es]
    exact (ops m c).suml_eq j _ fun h1 => by rw [before_out m c t (by omega) d12]; congr 1; omega
  iapply (run4 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) j _ _ _ (by rw [coords_0]; omega) (by rw [coords_1]; omega) _)
  isplitl [Hz]; · iexact Hz
  isplitl [Hs]; · iexact Hs
  isplitl [A12]; · iexact A12
  iintro ⟨Hz, Hs, A12⟩
  isplitl [Hab Hz H1 H2 Hs Hg]
  · iexists _, _, _, _, _
    isplitr
    · ipureintro
      exact Phi_succ m c t (h := 1) (j := j.val + 12) (by omega) (by omega) _ _ _ _ _ (hI.step4 (by omega))
    isplitl [Hab]; · iexact Hab
    isplitl [Hz]; · iexact Hz
    isplitl [H1]; · iexact H1
    isplitl [H2]; · iexact H2
    isplitl [Hs]; · iexact Hs
    iexact Hg
  isplitl [HO]; · iexact HO
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  rw [show (dats m 0 c).after 12 t = (ops m c).out j.val from congrArg (ops m c).out (show t.val - 28 = j.val by omega), ← hout]
  iexact A12

/-- The body at any point. -/
theorem sound_body (c : Dev nD) (t : Fin cfg0.N) : bodyPre m c t ⊢ wp frame (wpE (defs₀ (F := F)) Variants.none c none) Set.univ (bodyAt0 t) (fun _ => bodyPost m c t) := by
  have h32 : t.val < 32 := lt_of_lt_of_eq t.isLt N_0
  by_cases a1 : t.val % 16 < 4
  · by_cases b : t.val < 16
    · exact sound1_0 m c t ⟨t.val, by omega⟩ (by show t.val = 0 + t.val; omega)
    · exact sound1_1 m c t ⟨t.val - 16, by omega⟩ (by show t.val = 16 + (t.val - 16); omega)
  by_cases a2 : t.val % 16 < 8
  · exact sound2 m c t ⟨t.val / 16, by omega⟩ ⟨t.val % 16 - 4, by omega⟩ (by show t.val = 16 * (t.val / 16) + (t.val % 16 - 4) + 4; omega)
  by_cases a3 : t.val % 16 < 12
  · exact sound3 m c t ⟨t.val / 16, by omega⟩ ⟨t.val % 16 - 8, by omega⟩ (by show t.val = 16 * (t.val / 16) + (t.val % 16 - 8) + 8; omega)
  by_cases b : t.val < 16
  · exact sound0 m c t (by omega) b
  · exact sound4 m c t ⟨t.val - 28, by omega⟩ (by show t.val = 28 + (t.val - 28); omega)

/-- The body table's row at the point is the body as the pipeline calls it. -/
theorem defs₀_row (t : Fin cfg0.N) : defs₀ (F := F) .tc cfg0.body (cfg0.bodyArgs t (cfg0.slots t)) = bodyAt0 t := by
  unfold defs₀; rw [Defs.onTc_tc]

/-- The body obligation of the launch. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch starts with gives the invariant before the first point; the invariant after the last gives it back. -/
theorem Phi_in (c : Dev nD) : Pipeline.ΦA spec0 c ⊢ (dats (F := F) m 0 c).Φ 0 := by
  rw [show (dats (F := F) m 0 c).Φ 0 = PhiS m c 0 0 from rfl]
  unfold Pipeline.ΦA PhiS
  rw [scopedRest0_eq]
  simp only [owns_whole]
  iintro ⟨⟨⟨%f0, H0⟩, ⟨%f1, H1⟩, ⟨%f2, H2⟩, ⟨%f3, H3⟩, ⟨%f4, H4⟩⟩, Hg⟩
  iexists f0, f1, f2, f3, f4
  isplitr
  · ipureintro; exact Operands.Inv.start
  isplitl [H0]; · iexact H0
  isplitl [H1]; · iexact H1
  isplitl [H2]; · iexact H2
  isplitl [H3]; · iexact H3
  isplitl [H4]; · iexact H4
  iexact Hg
theorem Phi_out (c : Dev nD) : (dats (F := F) m 0 c).Φ (Fin.last cfg0.N) ⊢ Pipeline.ΦA spec0 c := by
  rw [show (dats (F := F) m 0 c).Φ (Fin.last cfg0.N) = PhiS m c (cfg0.N / 16) (cfg0.N % 16) from rfl]
  unfold Pipeline.ΦA PhiS
  rw [scopedRest0_eq]
  simp only [owns_whole]
  iintro ⟨%f0, %f1, %f2, %f3, %f4, -, H0, H1, H2, H3, H4, Hg⟩
  isplitl [H0 H1 H2 H3 H4]
  · isplitl [H0]; · iexists f0; iexact H0
    isplitl [H1]; · iexists f1; iexact H1
    isplitl [H2]; · iexists f2; iexact H2
    isplitl [H3]; · iexists f3; iexact H3
    iexists f4; iexact H4
  iexact Hg

set_option backward.isDefEq.respectTransparency.types false in
/-- The run of `main`: it terminates, the arrays end as the proof data says, every other buffer as the host lines leave it,
    and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)

variable {m} in
/-- After the run the arguments are as they were. -/
theorem final_args {r : PUnit × MemSt nD τ sig (Elt F)} (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c))),
   ((h c).2 main_arg2 (Pipeline.mem_restRefs_of main_arg2 (by decide) (by decide))).trans (W_main_arg2 m (dats m) c),
   ((h c).2 main_arg3 (Pipeline.mem_restRefs_of main_arg3 (by decide) (by decide))).trans (W_main_arg3 m (dats m) c),
   ((h c).2 main_arg4 (Pipeline.mem_restRefs_of main_arg4 (by decide) (by decide))).trans (W_main_arg4 m (dats m) c),
   ((h c).2 main_arg5 (Pipeline.mem_restRefs_of main_arg5 (by decide) (by decide))).trans (W_main_arg5 m (dats m) c),
   ((h c).2 main_arg6 (Pipeline.mem_restRefs_of main_arg6 (by decide) (by decide))).trans (W_main_arg6 m (dats m) c),
   ((h c).2 main_arg7 (Pipeline.mem_restRefs_of main_arg7 (by decide) (by decide))).trans (W_main_arg7 m (dats m) c),
   ((h c).2 main_arg8 (Pipeline.mem_restRefs_of main_arg8 (by decide) (by decide))).trans (W_main_arg8 m (dats m) c),
   ((h c).2 main_arg9 (Pipeline.mem_restRefs_of main_arg9 (by decide) (by decide))).trans (W_main_arg9 m (dats m) c),
   ((h c).2 main_arg10 (Pipeline.mem_restRefs_of main_arg10 (by decide) (by decide))).trans (W_main_arg10 m (dats m) c),
   ((h c).2 main_arg11 (Pipeline.mem_restRefs_of main_arg11 (by decide) (by decide))).trans (W_main_arg11 m (dats m) c)⟩

/-- The run leaves the arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
    ∧ r.2.sem = fun _ => 0) :=
  (θ_run defs _ _).mono (fun _ h => ⟨fun c => final_args h.1 c, h.2⟩) (run_main m ρ)

end Cert.KernelIdeal.Hand

end
-- ==== Proof.KernelFrame.lean ====
/-
  The kernel's frame, from the idealized kernel's. The idealized kernel is the kernel but for its named constants, and its
  run was proved for every reading of them: read as the words that the kernel prints, it is the kernel.
-/
module

public import proofs.«01_k».proof.Proof.Body
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.SL.Sem

variable {F : FTy → Type} [FloatOps F] [∀ e, Nonempty (Elt F e)]

/-- Each named constant as the word that the kernel prints. -/
@[reducible] def words : Named F := ⟨fun _ _ {φ} bits => FloatOps.ofBits φ bits⟩

section
local instance : Named F := words

/-- The kernel's body table is the idealized kernel's with its constants read as words. -/
theorem defs₀_eq : defs₀ (F := F) = Cert.KernelIdeal.defs₀ (F := F) := by
  refine congrArg Defs.onTc (funext fun l => funext fun a => ?_)
  obtain rfl : l = (0 : Fin 1) := Subsingleton.elim (α := Fin 1) _ _
  rfl

/-- So are the body tables with the region and the pipeline of the launch. -/
theorem defs_eq : defs (F := F) = Cert.KernelIdeal.defs (F := F) := congrArg (Pipeline.defs pcfgs) defs₀_eq

end

variable (m : (ℓ : Loc nD τ sig) → Buf (Elt F) ℓ) (ρ : Dev nD → PrngReg)

/-- The run leaves the arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
    ∧ r.2.sem = fun _ => 0) := by
  letI := words (F := F)
  rw [defs_eq]
  exact Cert.KernelIdeal.Hand.frame (F := F) m ρ

end Cert.Kernel.Hand

end
-- ==== Proof.RefRun.lean ====
/-
  The reference is a straight line of host operations. Here it is cut into the lines of its layers: a linear layer, a
  batch normalisation with its rectifier, the unit rows, the similarities, the partners, the masked sums and the loss.
  `main_eq` says that the printed program is these lines one after the other; `run_main` runs it, and `frame` states that
  it ends with its arguments as they were and every semaphore at zero.
-/
module

public import proofs.«01_k».proof.Defs
public import proofs.«01_k».proof.Proof.Gen.ReferenceIdeal
public import Idealize.ShloMosaic.Lib.StableHlo.Run
public import Idealize.ShloMosaic.Lib.Pipeline.Frame
public import Idealize.ShloMosaic.Lib.Quiescent

@[expose] public section

noncomputable section

namespace Cert.ReferenceIdeal.Hand

open Idealize.ShloMosaic Idealize.ShloMosaic.TcCoe Idealize.ShloMosaic.StableHlo Idealize.SL.Sem
open Cert.ReferenceIdeal Cert.ReferenceIdeal.Gen

variable {F : FTy → Type} [FloatOps F]

/-- The operations of one call choosing between a vector and a constant. -/
abbrev whereOps (arg0 : TRef sig ⟨S_, .i1⟩) (arg1 : TRef sig ⟨S256, .f32⟩) (arg2 : TRef sig ⟨S_, .f32⟩) (φ : fn_where.Bufs) : List (HloOp τ sig (Elt F)) :=
  [ TRef.unary arg2 φ.v0 id,
    TRef.unary φ.v0 φ.v1 (broadcastInDim S256 ![] bcast_S_S256),
    TRef.ternary arg0 arg1 φ.v1 φ.v2 (fun p a b => select (broadcastInDim S256 ![] bcast_S_S256 p) a b) ]

/-- The operations of one call of the column variance. -/
abbrev varOps (arg0 : TRef sig ⟨S8192x256, .f32⟩) (arg1 : TRef sig ⟨S_, .i32⟩) (φ : fn_var.Bufs) : List (HloOp τ sig (Elt F)) :=
  [ TRef.nullary φ.cst (constant S_ .f32 0x00000000#32),
    TRef.binary arg0 φ.cst φ.v0 (fun x v => Host.reduceAdd x v reducesTo_S8192x256_S256_d0 h_S_),
    TRef.unary φ.v0 φ.v1 (broadcastInDim S1x256 ![1] bcast_S256_S1x256_1),
    TRef.nullary φ.cst_0 (constant S_ .f32 0x46000000#32),
    TRef.unary φ.cst_0 φ.v2 (broadcastInDim S1x256 ![] bcast_S_S1x256),
    TRef.binary φ.v1 φ.v2 φ.v3 Host.divf,
    TRef.unary φ.v3 φ.v4 (broadcastInDim S8192x256 ![0, 1] bcast_S1x256_S8192x256_0_1),
    TRef.binary arg0 φ.v4 φ.v5 subf,
    TRef.binary φ.v5 φ.v5 φ.v6 mulf,
    TRef.unary arg1 φ.v7 (sitofp .f32),
    TRef.nullary φ.cst_1 (constant S_ .f32 0x46000000#32),
    TRef.binary φ.cst_1 φ.v7 φ.v8 subf,
    TRef.nullary φ.cst_2 (constant S_ .f32 0x00000000#32),
    TRef.binary φ.v6 φ.cst_2 φ.v9 (fun x v => Host.reduceAdd x v reducesTo_S8192x256_S256_d0 h_S_),
    TRef.unary φ.v8 φ.v10 (broadcastInDim S256 ![] bcast_S_S256),
    TRef.binary φ.v9 φ.v10 φ.v11 Host.divf,
    TRef.nullary φ.cst_3 (constant S_ .f32 0x00000000#32),
    TRef.binary φ.v8 φ.cst_3 φ.v12 (cmpf .ogt),
    TRef.nullary φ.cst_4 (constant S_ .f32 0x7FC00000#32) ] ++
  whereOps φ.v12 φ.v11 φ.cst_4 φ.call0

/-- The operations of one call of the rectifier. -/
abbrev reluOps (arg0 : TRef sig ⟨S8192x256, .f32⟩) (φ : fn_relu.Bufs) : List (HloOp τ sig (Elt F)) :=
  [ TRef.nullary φ.cst (constant S_ .f32 0x00000000#32),
    TRef.unary φ.cst φ.v0 (broadcastInDim S8192x256 ![] bcast_S_S8192x256),
    TRef.binary arg0 φ.v0 φ.v1 maximumf ]

/-- The operations of one call of the row norms. -/
abbrev normOps (arg0 : TRef sig ⟨S8192x128, .f32⟩) (φ : fn_norm.Bufs) : List (HloOp τ sig (Elt F)) :=
  [ TRef.binary arg0 arg0 φ.v0 mulf,
    TRef.nullary φ.cst (constant S_ .f32 0x00000000#32),
    TRef.binary φ.v0 φ.cst φ.v1 (fun x v => Host.reduceAdd x v reducesTo_S8192x128_S8192_d1 h_S_),
    TRef.unary φ.v1 φ.v2 (broadcastInDim S8192x1 ![0] bcast_S8192_S8192x1_0),
    TRef.unary φ.v2 φ.v3 Host.sqrt ]

/-- The operations of the first half's first linear layer. -/
def denseA1 : List (HloOp τ sig (Elt F)) :=
  [ binary main_arg0 main_arg2 main_v0 (fun l r => Host.dotGeneral dot_S8192x512_S512x256_S8192x256_1_0_0_1_n_n none l r),
    unary main_arg3 main_v1 (broadcastInDim S1x256 ![1] bcast_S256_S1x256_1),
    unary main_v1 main_v2 (broadcastInDim S8192x256 ![0, 1] bcast_S1x256_S8192x256_0_1),
    binary main_v0 main_v2 main_v3 addf ]

/-- What `denseA1` writes. -/
abbrev denseA1W : List (Ref sig .tc) :=
  [main_v0, main_v1, main_v2, main_v3]

/-- `denseA1` leaves every other buffer as it was. -/
theorem denseA1_keeps (V : Valuation τ sig (Elt F)) {r : Ref sig .tc} (h : r ∉ denseA1W) :
    after denseA1 V (no_index (Proc.devRef .tc r)) = V (Proc.devRef .tc r) :=
  after_of_writes_sub denseA1 V (forall_writes_sub_of_map (W := denseA1W) rfl) h

theorem denseA1_sub : (denseA1 : List (HloOp τ sig (Elt F))).Forall fun op => op.bufs ⊆ tcRefs τ sig :=
  ⟨binary_bufs_sub .., unary_bufs_sub .., unary_bufs_sub .., binary_bufs_sub ..⟩

theorem denseA1_fresh : (denseA1 : List (HloOp τ sig (Elt F))).Forall fun op => op.fresh = ∅ :=
  forall_fresh_of_map rfl

/-- The operations of the first half's first batch normalisation and rectifier. -/
def normA1 : List (HloOp τ sig (Elt F)) :=
  [ nullary main_cst (constant S_ .f32 0x00000000#32),
    binary main_v3 main_cst main_v4 (fun x v => Host.reduceAdd x v reducesTo_S8192x256_S256_d0 h_S_),
    nullary main_cst_0 (constant S_ .f32 0x46000000#32),
    unary main_cst_0 main_v5 (broadcastInDim S256 ![] bcast_S_S256),
    binary main_v4 main_v5 main_v6 Host.divf,
    nullary main_c (constantI S_ 32 0#32) ] ++
  varOps (.of main_v3) (.of main_c) main_call0 ++
  [ unary main_v6 main_v8 (broadcastInDim S1x256 ![1] bcast_S256_S1x256_1),
    unary main_v8 main_v9 (broadcastInDim S8192x256 ![0, 1] bcast_S1x256_S8192x256_0_1),
    binary main_v3 main_v9 main_v10 subf,
    nullary main_cst_1 (constant S_ .f32 0x3727C5AC#32),
    unary main_cst_1 main_v11 (broadcastInDim S256 ![] bcast_S_S256),
    binary main_v7 main_v11 main_v12 addf,
    unary main_v12 main_v13 Host.rsqrt,
    unary main_v13 main_v14 (broadcastInDim S1x256 ![1] bcast_S256_S1x256_1),
    unary main_v14 main_v15 (broadcastInDim S8192x256 ![0, 1] bcast_S1x256_S8192x256_0_1),
    binary main_v10 main_v15 main_v16 mulf,
    unary main_arg4 main_v17 (broadcastInDim S1x256 ![1] bcast_S256_S1x256_1),
    unary main_v17 main_v18 (broadcastInDim S8192x256 ![0, 1] bcast_S1x256_S8192x256_0_1),
    binary main_v16 main_v18 main_v19 mulf,
    unary main_arg5 main_v20 (broadcastInDim S1x256 ![1] bcast_S256_S1x256_1),
    unary main_v20 main_v21 (broadcastInDim S8192x256 ![0, 1] bcast_S1x256_S8192x256_0_1),
    binary main_v19 main_v21 main_v22 addf ] ++
  reluOps (.of main_v22) main_call1

/-- What `normA1` writes. -/
abbrev normA1W : List (Ref sig .tc) :=
  [main_cst, main_v4, main_cst_0, main_v5, main_v6, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v7, main_v8, main_v9, main_v10, main_cst_1, main_v11, main_v12, main_v13, main_v14, main_v15, main_v16, main_v17, main_v18, main_v19, main_v20, main_v21, main_v22, main_call1_cst, main_call1_v0, main_v23]

/-- `normA1` leaves every other buffer as it was. -/
theorem normA1_keeps (V : Valuation τ sig (Elt F)) {r : Ref sig .tc} (h : r ∉ normA1W) :
    after normA1 V (no_index (Proc.devRef .tc r)) = V (Proc.devRef .tc r) :=
  after_of_writes_sub normA1 V (forall_writes_sub_of_map (W := normA1W) rfl) h

theorem normA1_sub : (normA1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem normA1_fresh : (normA1 : List (HloOp τ sig (Elt F))).Forall fun op => op.fresh = ∅ :=
  forall_fresh_of_map rfl

/-- The operations of the first half's second linear layer. -/
def denseA2 : List (HloOp τ sig (Elt F)) :=
  [ binary main_v23 main_arg6 main_v24 (fun l r => Host.dotGeneral dot_S8192x256_S256x256_S8192x256_1_0_0_1_n_n none l r),
    unary main_arg7 main_v25 (broadcastInDim S1x256 ![1] bcast_S256_S1x256_1),
    unary main_v25 main_v26 (broadcastInDim S8192x256 ![0, 1] bcast_S1x256_S8192x256_0_1),
    binary main_v24 main_v26 main_v27 addf ]

/-- What `denseA2` writes. -/
abbrev denseA2W : List (Ref sig .tc) :=
  [main_v24, main_v25, main_v26, main_v27]

/-- `denseA2` leaves every other buffer as it was. -/
theorem denseA2_keeps (V : Valuation τ sig (Elt F)) {r : Ref sig .tc} (h : r ∉ denseA2W) :
    after denseA2 V (no_index (Proc.devRef .tc r)) = V (Proc.devRef .tc r) :=
  after_of_writes_sub denseA2 V (forall_writes_sub_of_map (W := denseA2W) rfl) h

theorem denseA2_sub : (denseA2 : List (HloOp τ sig (Elt F))).Forall fun op => op.bufs ⊆ tcRefs τ sig :=
  ⟨binary_bufs_sub .., unary_bufs_sub .., unary_bufs_sub .., binary_bufs_sub ..⟩

theorem denseA2_fresh : (denseA2 : List (HloOp τ sig (Elt F))).Forall fun op => op.fresh = ∅ :=
  forall_fresh_of_map rfl

/-- The operations of the first half's second batch normalisation and rectifier. -/
def normA2 : List (HloOp τ sig (Elt F)) :=
  [ nullary main_cst_2 (constant S_ .f32 0x00000000#32),
    binary main_v27 main_cst_2 main_v28 (fun x v => Host.reduceAdd x v reducesTo_S8192x256_S256_d0 h_S_),
    nullary main_cst_3 (constant S_ .f32 0x46000000#32),
    unary main_cst_3 main_v29 (broadcastInDim S256 ![] bcast_S_S256),
    binary main_v28 main_v29 main_v30 Host.divf,
    nullary main_c_4 (constantI S_ 32 0#32) ] ++
  varOps (.of main_v27) (.of main_c_4) main_call2 ++
  [ unary main_v30 main_v32 (broadcastInDim S1x256 ![1] bcast_S256_S1x256_1),
    unary main_v32 main_v33 (broadcastInDim S8192x256 ![0, 1] bcast_S1x256_S8192x256_0_1),
    binary main_v27 main_v33 main_v34 subf,
    nullary main_cst_5 (constant S_ .f32 0x3727C5AC#32),
    unary main_cst_5 main_v35 (broadcastInDim S256 ![] bcast_S_S256),
    binary main_v31 main_v35 main_v36 addf,
    unary main_v36 main_v37 Host.rsqrt,
    unary main_v37 main_v38 (broadcastInDim S1x256 ![1] bcast_S256_S1x256_1),
    unary main_v38 main_v39 (broadcastInDim S8192x256 ![0, 1] bcast_S1x256_S8192x256_0_1),
    binary main_v34 main_v39 main_v40 mulf,
    unary main_arg8 main_v41 (broadcastInDim S1x256 ![1] bcast_S256_S1x256_1),
    unary main_v41 main_v42 (broadcastInDim S8192x256 ![0, 1] bcast_S1x256_S8192x256_0_1),
    binary main_v40 main_v42 main_v43 mulf,
    unary main_arg9 main_v44 (broadcastInDim S1x256 ![1] bcast_S256_S1x256_1),
    unary main_v44 main_v45 (broadcastInDim S8192x256 ![0, 1] bcast_S1x256_S8192x256_0_1),
    binary main_v43 main_v45 main_v46 addf ] ++
  reluOps (.of main_v46) main_call3

/-- What `normA2` writes. -/
abbrev normA2W : List (Ref sig .tc) :=
  [main_cst_2, main_v28, main_cst_3, main_v29, main_v30, main_c_4, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v31, main_v32, main_v33, main_v34, main_cst_5, main_v35, main_v36, main_v37, main_v38, main_v39, main_v40, main_v41, main_v42, main_v43, main_v44, main_v45, main_v46, main_call3_cst, main_call3_v0, main_v47]

/-- `normA2` leaves every other buffer as it was. -/
theorem normA2_keeps (V : Valuation τ sig (Elt F)) {r : Ref sig .tc} (h : r ∉ normA2W) :
    after normA2 V (no_index (Proc.devRef .tc r)) = V (Proc.devRef .tc r) :=
  after_of_writes_sub normA2 V (forall_writes_sub_of_map (W := normA2W) rfl) h

theorem normA2_sub : (normA2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem normA2_fresh : (normA2 : List (HloOp τ sig (Elt F))).Forall fun op => op.fresh = ∅ :=
  forall_fresh_of_map rfl

/-- The operations of the first half's projection. -/
def denseA3 : List (HloOp τ sig (Elt F)) :=
  [ binary main_v47 main_arg10 main_v48 (fun l r => Host.dotGeneral dot_S8192x256_S256x128_S8192x128_1_0_0_1_n_n none l r),
    unary main_arg11 main_v49 (broadcastInDim S1x128 ![1] bcast_S128_S1x128_1),
    unary main_v49 main_v50 (broadcastInDim S8192x128 ![0, 1] bcast_S1x128_S8192x128_0_1),
    binary main_v48 main_v50 main_v51 addf ]

/-- What `denseA3` writes. -/
abbrev denseA3W : List (Ref sig .tc) :=
  [main_v48, main_v49, main_v50, main_v51]

/-- `denseA3` leaves every other buffer as it was. -/
theorem denseA3_keeps (V : Valuation τ sig (Elt F)) {r : Ref sig .tc} (h : r ∉ denseA3W) :
    after denseA3 V (no_index (Proc.devRef .tc r)) = V (Proc.devRef .tc r) :=
  after_of_writes_sub denseA3 V (forall_writes_sub_of_map (W := denseA3W) rfl) h

theorem denseA3_sub : (denseA3 : List (HloOp τ sig (Elt F))).Forall fun op => op.bufs ⊆ tcRefs τ sig :=
  ⟨binary_bufs_sub .., unary_bufs_sub .., unary_bufs_sub .., binary_bufs_sub ..⟩

theorem denseA3_fresh : (denseA3 : List (HloOp τ sig (Elt F))).Forall fun op => op.fresh = ∅ :=
  forall_fresh_of_map rfl

/-- The operations of the second half's first linear layer. -/
def denseB1 : List (HloOp τ sig (Elt F)) :=
  [ binary main_arg1 main_arg2 main_v52 (fun l r => Host.dotGeneral dot_S8192x512_S512x256_S8192x256_1_0_0_1_n_n none l r),
    unary main_arg3 main_v53 (broadcastInDim S1x256 ![1] bcast_S256_S1x256_1),
    unary main_v53 main_v54 (broadcastInDim S8192x256 ![0, 1] bcast_S1x256_S8192x256_0_1),
    binary main_v52 main_v54 main_v55 addf ]

/-- What `denseB1` writes. -/
abbrev denseB1W : List (Ref sig .tc) :=
  [main_v52, main_v53, main_v54, main_v55]

/-- `denseB1` leaves every other buffer as it was. -/
theorem denseB1_keeps (V : Valuation τ sig (Elt F)) {r : Ref sig .tc} (h : r ∉ denseB1W) :
    after denseB1 V (no_index (Proc.devRef .tc r)) = V (Proc.devRef .tc r) :=
  after_of_writes_sub denseB1 V (forall_writes_sub_of_map (W := denseB1W) rfl) h

theorem denseB1_sub : (denseB1 : List (HloOp τ sig (Elt F))).Forall fun op => op.bufs ⊆ tcRefs τ sig :=
  ⟨binary_bufs_sub .., unary_bufs_sub .., unary_bufs_sub .., binary_bufs_sub ..⟩

theorem denseB1_fresh : (denseB1 : List (HloOp τ sig (Elt F))).Forall fun op => op.fresh = ∅ :=
  forall_fresh_of_map rfl

/-- The operations of the second half's first batch normalisation and rectifier. -/
def normB1 : List (HloOp τ sig (Elt F)) :=
  [ nullary main_cst_6 (constant S_ .f32 0x00000000#32),
    binary main_v55 main_cst_6 main_v56 (fun x v => Host.reduceAdd x v reducesTo_S8192x256_S256_d0 h_S_),
    nullary main_cst_7 (constant S_ .f32 0x46000000#32),
    unary main_cst_7 main_v57 (broadcastInDim S256 ![] bcast_S_S256),
    binary main_v56 main_v57 main_v58 Host.divf,
    nullary main_c_8 (constantI S_ 32 0#32) ] ++
  varOps (.of main_v55) (.of main_c_8) main_call4 ++
  [ unary main_v58 main_v60 (broadcastInDim S1x256 ![1] bcast_S256_S1x256_1),
    unary main_v60 main_v61 (broadcastInDim S8192x256 ![0, 1] bcast_S1x256_S8192x256_0_1),
    binary main_v55 main_v61 main_v62 subf,
    nullary main_cst_9 (constant S_ .f32 0x3727C5AC#32),
    unary main_cst_9 main_v63 (broadcastInDim S256 ![] bcast_S_S256),
    binary main_v59 main_v63 main_v64 addf,
    unary main_v64 main_v65 Host.rsqrt,
    unary main_v65 main_v66 (broadcastInDim S1x256 ![1] bcast_S256_S1x256_1),
    unary main_v66 main_v67 (broadcastInDim S8192x256 ![0, 1] bcast_S1x256_S8192x256_0_1),
    binary main_v62 main_v67 main_v68 mulf,
    unary main_arg4 main_v69 (broadcastInDim S1x256 ![1] bcast_S256_S1x256_1),
    unary main_v69 main_v70 (broadcastInDim S8192x256 ![0, 1] bcast_S1x256_S8192x256_0_1),
    binary main_v68 main_v70 main_v71 mulf,
    unary main_arg5 main_v72 (broadcastInDim S1x256 ![1] bcast_S256_S1x256_1),
    unary main_v72 main_v73 (broadcastInDim S8192x256 ![0, 1] bcast_S1x256_S8192x256_0_1),
    binary main_v71 main_v73 main_v74 addf ] ++
  reluOps (.of main_v74) main_call5

/-- What `normB1` writes. -/
abbrev normB1W : List (Ref sig .tc) :=
  [main_cst_6, main_v56, main_cst_7, main_v57, main_v58, main_c_8, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v59, main_v60, main_v61, main_v62, main_cst_9, main_v63, main_v64, main_v65, main_v66, main_v67, main_v68, main_v69, main_v70, main_v71, main_v72, main_v73, main_v74, main_call5_cst, main_call5_v0, main_v75]

/-- `normB1` leaves every other buffer as it was. -/
theorem normB1_keeps (V : Valuation τ sig (Elt F)) {r : Ref sig .tc} (h : r ∉ normB1W) :
    after normB1 V (no_index (Proc.devRef .tc r)) = V (Proc.devRef .tc r) :=
  after_of_writes_sub normB1 V (forall_writes_sub_of_map (W := normB1W) rfl) h

theorem normB1_sub : (normB1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem normB1_fresh : (normB1 : List (HloOp τ sig (Elt F))).Forall fun op => op.fresh = ∅ :=
  forall_fresh_of_map rfl

/-- The operations of the second half's second linear layer. -/
def denseB2 : List (HloOp τ sig (Elt F)) :=
  [ binary main_v75 main_arg6 main_v76 (fun l r => Host.dotGeneral dot_S8192x256_S256x256_S8192x256_1_0_0_1_n_n none l r),
    unary main_arg7 main_v77 (broadcastInDim S1x256 ![1] bcast_S256_S1x256_1),
    unary main_v77 main_v78 (broadcastInDim S8192x256 ![0, 1] bcast_S1x256_S8192x256_0_1),
    binary main_v76 main_v78 main_v79 addf ]

/-- What `denseB2` writes. -/
abbrev denseB2W : List (Ref sig .tc) :=
  [main_v76, main_v77, main_v78, main_v79]

/-- `denseB2` leaves every other buffer as it was. -/
theorem denseB2_keeps (V : Valuation τ sig (Elt F)) {r : Ref sig .tc} (h : r ∉ denseB2W) :
    after denseB2 V (no_index (Proc.devRef .tc r)) = V (Proc.devRef .tc r) :=
  after_of_writes_sub denseB2 V (forall_writes_sub_of_map (W := denseB2W) rfl) h

theorem denseB2_sub : (denseB2 : List (HloOp τ sig (Elt F))).Forall fun op => op.bufs ⊆ tcRefs τ sig :=
  ⟨binary_bufs_sub .., unary_bufs_sub .., unary_bufs_sub .., binary_bufs_sub ..⟩

theorem denseB2_fresh : (denseB2 : List (HloOp τ sig (Elt F))).Forall fun op => op.fresh = ∅ :=
  forall_fresh_of_map rfl

/-- The operations of the second half's second batch normalisation and rectifier. -/
def normB2 : List (HloOp τ sig (Elt F)) :=
  [ nullary main_cst_10 (constant S_ .f32 0x00000000#32),
    binary main_v79 main_cst_10 main_v80 (fun x v => Host.reduceAdd x v reducesTo_S8192x256_S256_d0 h_S_),
    nullary main_cst_11 (constant S_ .f32 0x46000000#32),
    unary main_cst_11 main_v81 (broadcastInDim S256 ![] bcast_S_S256),
    binary main_v80 main_v81 main_v82 Host.divf,
    nullary main_c_12 (constantI S_ 32 0#32) ] ++
  varOps (.of main_v79) (.of main_c_12) main_call6 ++
  [ unary main_v82 main_v84 (broadcastInDim S1x256 ![1] bcast_S256_S1x256_1),
    unary main_v84 main_v85 (broadcastInDim S8192x256 ![0, 1] bcast_S1x256_S8192x256_0_1),
    binary main_v79 main_v85 main_v86 subf,
    nullary main_cst_13 (constant S_ .f32 0x3727C5AC#32),
    unary main_cst_13 main_v87 (broadcastInDim S256 ![] bcast_S_S256),
    binary main_v83 main_v87 main_v88 addf,
    unary main_v88 main_v89 Host.rsqrt,
    unary main_v89 main_v90 (broadcastInDim S1x256 ![1] bcast_S256_S1x256_1),
    unary main_v90 main_v91 (broadcastInDim S8192x256 ![0, 1] bcast_S1x256_S8192x256_0_1),
    binary main_v86 main_v91 main_v92 mulf,
    unary main_arg8 main_v93 (broadcastInDim S1x256 ![1] bcast_S256_S1x256_1),
    unary main_v93 main_v94 (broadcastInDim S8192x256 ![0, 1] bcast_S1x256_S8192x256_0_1),
    binary main_v92 main_v94 main_v95 mulf,
    unary main_arg9 main_v96 (broadcastInDim S1x256 ![1] bcast_S256_S1x256_1),
    unary main_v96 main_v97 (broadcastInDim S8192x256 ![0, 1] bcast_S1x256_S8192x256_0_1),
    binary main_v95 main_v97 main_v98 addf ] ++
  reluOps (.of main_v98) main_call7

/-- What `normB2` writes. -/
abbrev normB2W : List (Ref sig .tc) :=
  [main_cst_10, main_v80, main_cst_11, main_v81, main_v82, main_c_12, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v83, main_v84, main_v85, main_v86, main_cst_13, main_v87, main_v88, main_v89, main_v90, main_v91, main_v92, main_v93, main_v94, main_v95, main_v96, main_v97, main_v98, main_call7_cst, main_call7_v0, main_v99]

/-- `normB2` leaves every other buffer as it was. -/
theorem normB2_keeps (V : Valuation τ sig (Elt F)) {r : Ref sig .tc} (h : r ∉ normB2W) :
    after normB2 V (no_index (Proc.devRef .tc r)) = V (Proc.devRef .tc r) :=
  after_of_writes_sub normB2 V (forall_writes_sub_of_map (W := normB2W) rfl) h

theorem normB2_sub : (normB2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem normB2_fresh : (normB2 : List (HloOp τ sig (Elt F))).Forall fun op => op.fresh = ∅ :=
  forall_fresh_of_map rfl

/-- The operations of the second half's projection. -/
def denseB3 : List (HloOp τ sig (Elt F)) :=
  [ binary main_v99 main_arg10 main_v100 (fun l r => Host.dotGeneral dot_S8192x256_S256x128_S8192x128_1_0_0_1_n_n none l r),
    unary main_arg11 main_v101 (broadcastInDim S1x128 ![1] bcast_S128_S1x128_1),
    unary main_v101 main_v102 (broadcastInDim S8192x128 ![0, 1] bcast_S1x128_S8192x128_0_1),
    binary main_v100 main_v102 main_v103 addf ]

/-- What `denseB3` writes. -/
abbrev denseB3W : List (Ref sig .tc) :=
  [main_v100, main_v101, main_v102, main_v103]

/-- `denseB3` leaves every other buffer as it was. -/
theorem denseB3_keeps (V : Valuation τ sig (Elt F)) {r : Ref sig .tc} (h : r ∉ denseB3W) :
    after denseB3 V (no_index (Proc.devRef .tc r)) = V (Proc.devRef .tc r) :=
  after_of_writes_sub denseB3 V (forall_writes_sub_of_map (W := denseB3W) rfl) h

theorem denseB3_sub : (denseB3 : List (HloOp τ sig (Elt F))).Forall fun op => op.bufs ⊆ tcRefs τ sig :=
  ⟨binary_bufs_sub .., unary_bufs_sub .., unary_bufs_sub .., binary_bufs_sub ..⟩

theorem denseB3_fresh : (denseB3 : List (HloOp τ sig (Elt F))).Forall fun op => op.fresh = ∅ :=
  forall_fresh_of_map rfl

/-- The operations of the first half's rows over their clamped norms. -/
def unitA : List (HloOp τ sig (Elt F)) :=
  normOps (.of main_v51) main_call8 ++
  [ nullary main_cst_14 (constant S_ .f32 0x2B8CBCCC#32),
    unary main_cst_14 main_v105 (broadcastInDim S8192x1 ![] bcast_S_S8192x1),
    binary main_v104 main_v105 main_v106 maximumf,
    unary main_v106 main_v107 (broadcastInDim S8192x128 ![0, 1] bcast_S8192x1_S8192x128_0_1),
    binary main_v51 main_v107 main_v108 Host.divf ]

/-- What `unitA` writes. -/
abbrev unitAW : List (Ref sig .tc) :=
  [main_call8_v0, main_call8_cst, main_call8_v1, main_call8_v2, main_v104, main_cst_14, main_v105, main_v106, main_v107, main_v108]

/-- `unitA` leaves every other buffer as it was. -/
theorem unitA_keeps (V : Valuation τ sig (Elt F)) {r : Ref sig .tc} (h : r ∉ unitAW) :
    after unitA V (no_index (Proc.devRef .tc r)) = V (Proc.devRef .tc r) :=
  after_of_writes_sub unitA V (forall_writes_sub_of_map (W := unitAW) rfl) h

theorem unitA_sub : (unitA : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩

theorem unitA_fresh : (unitA : List (HloOp τ sig (Elt F))).Forall fun op => op.fresh = ∅ :=
  forall_fresh_of_map rfl

/-- The operations of the second half's rows over their clamped norms. -/
def unitB : List (HloOp τ sig (Elt F)) :=
  normOps (.of main_v103) main_call9 ++
  [ nullary main_cst_15 (constant S_ .f32 0x2B8CBCCC#32),
    unary main_cst_15 main_v110 (broadcastInDim S8192x1 ![] bcast_S_S8192x1),
    binary main_v109 main_v110 main_v111 maximumf,
    unary main_v111 main_v112 (broadcastInDim S8192x128 ![0, 1] bcast_S8192x1_S8192x128_0_1),
    binary main_v103 main_v112 main_v113 Host.divf ]

/-- What `unitB` writes. -/
abbrev unitBW : List (Ref sig .tc) :=
  [main_call9_v0, main_call9_cst, main_call9_v1, main_call9_v2, main_v109, main_cst_15, main_v110, main_v111, main_v112, main_v113]

/-- `unitB` leaves every other buffer as it was. -/
theorem unitB_keeps (V : Valuation τ sig (Elt F)) {r : Ref sig .tc} (h : r ∉ unitBW) :
    after unitB V (no_index (Proc.devRef .tc r)) = V (Proc.devRef .tc r) :=
  after_of_writes_sub unitB V (forall_writes_sub_of_map (W := unitBW) rfl) h

theorem unitB_sub : (unitB : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩

theorem unitB_fresh : (unitB : List (HloOp τ sig (Elt F))).Forall fun op => op.fresh = ∅ :=
  forall_fresh_of_map rfl

/-- The operations of every pair of rows' similarity. -/
def simil : List (HloOp τ sig (Elt F)) :=
  [ binary main_v108 main_v113 main_v114 (fun a b => concatenate S16384x128 0 [⟨S8192x128, a⟩, ⟨S8192x128, b⟩] concatenates_S8192x128_S8192x128_S16384x128_d0),
    unary main_v114 main_v115 (transpose S128x16384 [1, 0] · transposes_S16384x128_S128x16384_1_0),
    binary main_v114 main_v115 main_v116 (fun l r => Host.dotGeneral dot_S16384x128_S128x16384_S16384x16384_1_0_0_1_n_n none l r) ]

/-- What `simil` writes. -/
abbrev similW : List (Ref sig .tc) :=
  [main_v114, main_v115, main_v116]

/-- `simil` leaves every other buffer as it was. -/
theorem simil_keeps (V : Valuation τ sig (Elt F)) {r : Ref sig .tc} (h : r ∉ similW) :
    after simil V (no_index (Proc.devRef .tc r)) = V (Proc.devRef .tc r) :=
  after_of_writes_sub simil V (forall_writes_sub_of_map (W := similW) rfl) h

theorem simil_sub : (simil : List (HloOp τ sig (Elt F))).Forall fun op => op.bufs ⊆ tcRefs τ sig :=
  ⟨binary_bufs_sub .., unary_bufs_sub .., binary_bufs_sub ..⟩

theorem simil_fresh : (simil : List (HloOp τ sig (Elt F))).Forall fun op => op.fresh = ∅ :=
  forall_fresh_of_map rfl

/-- The operations of the first half's partners' indices. -/
def colsA : List (HloOp τ sig (Elt F)) :=
  [ nullary main_v117 (iotaInDim S8192 32 0),
    nullary main_c_16 (constantI S_ 32 8192#32),
    unary main_c_16 main_v118 (broadcastInDim S8192 ![] bcast_S_S8192),
    binary main_v117 main_v118 main_v119 addi,
    nullary main_c_17 (constantI S_ 32 0#32),
    unary main_c_17 main_v120 (broadcastInDim S8192 ![] bcast_S_S8192),
    binary main_v117 main_v120 main_v121 (cmpi .slt),
    nullary main_c_18 (constantI S_ 32 16384#32),
    unary main_c_18 main_v122 (broadcastInDim S8192 ![] bcast_S_S8192),
    binary main_v117 main_v122 main_v123 addi,
    ternary main_v121 main_v123 main_v117 main_v124 select,
    nullary main_c_19 (constantI S_ 32 0#32),
    unary main_c_19 main_v125 (broadcastInDim S8192 ![] bcast_S_S8192),
    binary main_v119 main_v125 main_v126 (cmpi .slt),
    nullary main_c_20 (constantI S_ 32 16384#32),
    unary main_c_20 main_v127 (broadcastInDim S8192 ![] bcast_S_S8192),
    binary main_v119 main_v127 main_v128 addi,
    ternary main_v126 main_v128 main_v119 main_v129 select,
    unary main_v124 main_v130 (broadcastInDim S8192x1 ![0] bcast_S8192_S8192x1_0),
    unary main_v129 main_v131 (broadcastInDim S8192x1 ![0] bcast_S8192_S8192x1_0) ]

/-- What `colsA` writes. -/
abbrev colsAW : List (Ref sig .tc) :=
  [main_v117, main_c_16, main_v118, main_v119, main_c_17, main_v120, main_v121, main_c_18, main_v122, main_v123, main_v124, main_c_19, main_v125, main_v126, main_c_20, main_v127, main_v128, main_v129, main_v130, main_v131]

/-- `colsA` leaves every other buffer as it was. -/
theorem colsA_keeps (V : Valuation τ sig (Elt F)) {r : Ref sig .tc} (h : r ∉ colsAW) :
    after colsA V (no_index (Proc.devRef .tc r)) = V (Proc.devRef .tc r) :=
  after_of_writes_sub colsA V (forall_writes_sub_of_map (W := colsAW) rfl) h

theorem colsA_sub : (colsA : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

theorem colsA_fresh : (colsA : List (HloOp τ sig (Elt F))).Forall fun op => op.fresh = ∅ :=
  forall_fresh_of_map rfl

/-- The operations of the first half's rows' similarities to their partners. -/
def pairsA : List (HloOp τ sig (Elt F)) :=
  [ binary main_v130 main_v131 main_v132 (fun a b => concatenate S8192x2 1 [⟨S8192x1, a⟩, ⟨S8192x1, b⟩] concatenates_S8192x1_S8192x1_S8192x2_d1),
    binary main_v116 main_v132 main_v133 (fun x i => Host.gather gather_S16384x16384_S8192x2_S8192_n_01_n_n_01_1_11 x i) ]

/-- What `pairsA` writes. -/
abbrev pairsAW : List (Ref sig .tc) :=
  [main_v132, main_v133]

/-- `pairsA` leaves every other buffer as it was. -/
theorem pairsA_keeps (V : Valuation τ sig (Elt F)) {r : Ref sig .tc} (h : r ∉ pairsAW) :
    after pairsA V (no_index (Proc.devRef .tc r)) = V (Proc.devRef .tc r) :=
  after_of_writes_sub pairsA V (forall_writes_sub_of_map (W := pairsAW) rfl) h

theorem pairsA_sub : (pairsA : List (HloOp τ sig (Elt F))).Forall fun op => op.bufs ⊆ tcRefs τ sig :=
  ⟨binary_bufs_sub .., binary_bufs_sub ..⟩

theorem pairsA_fresh : (pairsA : List (HloOp τ sig (Elt F))).Forall fun op => op.fresh = ∅ :=
  forall_fresh_of_map rfl

/-- The operations of the second half's partners' indices. -/
def colsB : List (HloOp τ sig (Elt F)) :=
  [ nullary main_c_21 (constantI S_ 32 8192#32),
    unary main_c_21 main_v134 (broadcastInDim S8192 ![] bcast_S_S8192),
    binary main_v117 main_v134 main_v135 addi,
    nullary main_c_22 (constantI S_ 32 0#32),
    unary main_c_22 main_v136 (broadcastInDim S8192 ![] bcast_S_S8192),
    binary main_v135 main_v136 main_v137 (cmpi .slt),
    nullary main_c_23 (constantI S_ 32 16384#32),
    unary main_c_23 main_v138 (broadcastInDim S8192 ![] bcast_S_S8192),
    binary main_v135 main_v138 main_v139 addi,
    ternary main_v137 main_v139 main_v135 main_v140 select,
    nullary main_c_24 (constantI S_ 32 0#32),
    unary main_c_24 main_v141 (broadcastInDim S8192 ![] bcast_S_S8192),
    binary main_v117 main_v141 main_v142 (cmpi .slt),
    nullary main_c_25 (constantI S_ 32 16384#32),
    unary main_c_25 main_v143 (broadcastInDim S8192 ![] bcast_S_S8192),
    binary main_v117 main_v143 main_v144 addi,
    ternary main_v142 main_v144 main_v117 main_v145 select,
    unary main_v140 main_v146 (broadcastInDim S8192x1 ![0] bcast_S8192_S8192x1_0),
    unary main_v145 main_v147 (broadcastInDim S8192x1 ![0] bcast_S8192_S8192x1_0) ]

/-- What `colsB` writes. -/
abbrev colsBW : List (Ref sig .tc) :=
  [main_c_21, main_v134, main_v135, main_c_22, main_v136, main_v137, main_c_23, main_v138, main_v139, main_v140, main_c_24, main_v141, main_v142, main_c_25, main_v143, main_v144, main_v145, main_v146, main_v147]

/-- `colsB` leaves every other buffer as it was. -/
theorem colsB_keeps (V : Valuation τ sig (Elt F)) {r : Ref sig .tc} (h : r ∉ colsBW) :
    after colsB V (no_index (Proc.devRef .tc r)) = V (Proc.devRef .tc r) :=
  after_of_writes_sub colsB V (forall_writes_sub_of_map (W := colsBW) rfl) h

theorem colsB_sub : (colsB : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

theorem colsB_fresh : (colsB : List (HloOp τ sig (Elt F))).Forall fun op => op.fresh = ∅ :=
  forall_fresh_of_map rfl

/-- The operations of the second half's rows' similarities to their partners. -/
def pairsB : List (HloOp τ sig (Elt F)) :=
  [ binary main_v146 main_v147 main_v148 (fun a b => concatenate S8192x2 1 [⟨S8192x1, a⟩, ⟨S8192x1, b⟩] concatenates_S8192x1_S8192x1_S8192x2_d1),
    binary main_v116 main_v148 main_v149 (fun x i => Host.gather gather_S16384x16384_S8192x2_S8192_n_01_n_n_01_1_11 x i) ]

/-- What `pairsB` writes. -/
abbrev pairsBW : List (Ref sig .tc) :=
  [main_v148, main_v149]

/-- `pairsB` leaves every other buffer as it was. -/
theorem pairsB_keeps (V : Valuation τ sig (Elt F)) {r : Ref sig .tc} (h : r ∉ pairsBW) :
    after pairsB V (no_index (Proc.devRef .tc r)) = V (Proc.devRef .tc r) :=
  after_of_writes_sub pairsB V (forall_writes_sub_of_map (W := pairsBW) rfl) h

theorem pairsB_sub : (pairsB : List (HloOp τ sig (Elt F))).Forall fun op => op.bufs ⊆ tcRefs τ sig :=
  ⟨binary_bufs_sub .., binary_bufs_sub ..⟩

theorem pairsB_fresh : (pairsB : List (HloOp τ sig (Elt F))).Forall fun op => op.fresh = ∅ :=
  forall_fresh_of_map rfl

/-- The operations of each row's similarity to its partner. -/
def pairs : List (HloOp τ sig (Elt F)) :=
  [ binary main_v133 main_v149 main_v150 (fun a b => concatenate S16384 0 [⟨S8192, a⟩, ⟨S8192, b⟩] concatenates_S8192_S8192_S16384_d0),
    nullary main_cst_26 (constant S_ .f32 0x3D8F5C29#32) ]

/-- What `pairs` writes. -/
abbrev pairsW : List (Ref sig .tc) :=
  [main_v150, main_cst_26]

/-- `pairs` leaves every other buffer as it was. -/
theorem pairs_keeps (V : Valuation τ sig (Elt F)) {r : Ref sig .tc} (h : r ∉ pairsW) :
    after pairs V (no_index (Proc.devRef .tc r)) = V (Proc.devRef .tc r) :=
  after_of_writes_sub pairs V (forall_writes_sub_of_map (W := pairsW) rfl) h

theorem pairs_sub : (pairs : List (HloOp τ sig (Elt F))).Forall fun op => op.bufs ⊆ tcRefs τ sig :=
  ⟨binary_bufs_sub .., nullary_bufs_sub ..⟩

theorem pairs_fresh : (pairs : List (HloOp τ sig (Elt F))).Forall fun op => op.fresh = ∅ :=
  forall_fresh_of_map rfl

/-- The operations of the nominator. -/
def expos : List (HloOp τ sig (Elt F)) :=
  [ unary main_cst_26 main_v151 (broadcastInDim S16384 ![] bcast_S_S16384),
    binary main_v150 main_v151 main_v152 Host.divf,
    unary main_v152 main_v153 Host.exp ]

/-- What `expos` writes. -/
abbrev exposW : List (Ref sig .tc) :=
  [main_v151, main_v152, main_v153]

/-- `expos` leaves every other buffer as it was. -/
theorem expos_keeps (V : Valuation τ sig (Elt F)) {r : Ref sig .tc} (h : r ∉ exposW) :
    after expos V (no_index (Proc.devRef .tc r)) = V (Proc.devRef .tc r) :=
  after_of_writes_sub expos V (forall_writes_sub_of_map (W := exposW) rfl) h

theorem expos_sub : (expos : List (HloOp τ sig (Elt F))).Forall fun op => op.bufs ⊆ tcRefs τ sig :=
  ⟨unary_bufs_sub .., binary_bufs_sub .., unary_bufs_sub ..⟩

theorem expos_fresh : (expos : List (HloOp τ sig (Elt F))).Forall fun op => op.fresh = ∅ :=
  forall_fresh_of_map rfl

/-- The operations of each row's sum and the diagonal's indices. -/
def diag : List (HloOp τ sig (Elt F)) :=
  [ nullary main_v154 (iotaInDim S16384 32 0),
    nullary main_cst_27 (constant S_ .f32 0x00000000#32),
    binary main_v116 main_cst_27 main_v155 (fun x v => Host.reduceAdd x v reducesTo_S16384x16384_S16384_d1 h_S_),
    nullary main_c_28 (constantI S_ 32 0#32),
    unary main_c_28 main_v156 (broadcastInDim S16384 ![] bcast_S_S16384),
    binary main_v154 main_v156 main_v157 (cmpi .slt),
    nullary main_c_29 (constantI S_ 32 16384#32),
    unary main_c_29 main_v158 (broadcastInDim S16384 ![] bcast_S_S16384),
    binary main_v154 main_v158 main_v159 addi,
    ternary main_v157 main_v159 main_v154 main_v160 select,
    nullary main_c_30 (constantI S_ 32 0#32),
    unary main_c_30 main_v161 (broadcastInDim S16384 ![] bcast_S_S16384),
    binary main_v154 main_v161 main_v162 (cmpi .slt),
    nullary main_c_31 (constantI S_ 32 16384#32),
    unary main_c_31 main_v163 (broadcastInDim S16384 ![] bcast_S_S16384),
    binary main_v154 main_v163 main_v164 addi,
    ternary main_v162 main_v164 main_v154 main_v165 select,
    unary main_v160 main_v166 (broadcastInDim S16384x1 ![0] bcast_S16384_S16384x1_0),
    unary main_v165 main_v167 (broadcastInDim S16384x1 ![0] bcast_S16384_S16384x1_0) ]

/-- What `diag` writes. -/
abbrev diagW : List (Ref sig .tc) :=
  [main_v154, main_cst_27, main_v155, main_c_28, main_v156, main_v157, main_c_29, main_v158, main_v159, main_v160, main_c_30, main_v161, main_v162, main_c_31, main_v163, main_v164, main_v165, main_v166, main_v167]

/-- `diag` leaves every other buffer as it was. -/
theorem diag_keeps (V : Valuation τ sig (Elt F)) {r : Ref sig .tc} (h : r ∉ diagW) :
    after diag V (no_index (Proc.devRef .tc r)) = V (Proc.devRef .tc r) :=
  after_of_writes_sub diag V (forall_writes_sub_of_map (W := diagW) rfl) h

theorem diag_sub : (diag : List (HloOp τ sig (Elt F))).Forall fun op => op.bufs ⊆ tcRefs τ sig :=
  ⟨nullary_bufs_sub .., nullary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

theorem diag_fresh : (diag : List (HloOp τ sig (Elt F))).Forall fun op => op.fresh = ∅ :=
  forall_fresh_of_map rfl

/-- The operations of each row's sum without the diagonal. -/
def masked : List (HloOp τ sig (Elt F)) :=
  [ binary main_v166 main_v167 main_v168 (fun a b => concatenate S16384x2 1 [⟨S16384x1, a⟩, ⟨S16384x1, b⟩] concatenates_S16384x1_S16384x1_S16384x2_d1),
    binary main_v116 main_v168 main_v169 (fun x i => Host.gather gather_S16384x16384_S16384x2_S16384_n_01_n_n_01_1_11 x i),
    binary main_v155 main_v169 main_v170 subf ]

/-- What `masked` writes. -/
abbrev maskedW : List (Ref sig .tc) :=
  [main_v168, main_v169, main_v170]

/-- `masked` leaves every other buffer as it was. -/
theorem masked_keeps (V : Valuation τ sig (Elt F)) {r : Ref sig .tc} (h : r ∉ maskedW) :
    after masked V (no_index (Proc.devRef .tc r)) = V (Proc.devRef .tc r) :=
  after_of_writes_sub masked V (forall_writes_sub_of_map (W := maskedW) rfl) h

theorem masked_sub : (masked : List (HloOp τ sig (Elt F))).Forall fun op => op.bufs ⊆ tcRefs τ sig :=
  ⟨binary_bufs_sub .., binary_bufs_sub .., binary_bufs_sub ..⟩

theorem masked_fresh : (masked : List (HloOp τ sig (Elt F))).Forall fun op => op.fresh = ∅ :=
  forall_fresh_of_map rfl

/-- The operations of the mean loss. -/
def loss : List (HloOp τ sig (Elt F)) :=
  [ nullary main_cst_32 (constant S_ .f32 0x3D8F5C29#32),
    unary main_cst_32 main_v171 (broadcastInDim S16384 ![] bcast_S_S16384),
    binary main_v170 main_v171 main_v172 Host.divf,
    binary main_v153 main_v172 main_v173 Host.divf,
    unary main_v173 main_v174 Host.log,
    unary main_v174 main_v175 Host.negf,
    nullary main_cst_33 (constant S_ .f32 0x00000000#32),
    binary main_v175 main_cst_33 main_v176 (fun x v => Host.reduceAdd x v reducesTo_S16384_S_d0 h_S_),
    nullary main_cst_34 (constant S_ .f32 0x46800000#32),
    binary main_v176 main_cst_34 main_v177 Host.divf ]

/-- What `loss` writes. -/
abbrev lossW : List (Ref sig .tc) :=
  [main_cst_32, main_v171, main_v172, main_v173, main_v174, main_v175, main_cst_33, main_v176, main_cst_34, main_v177]

/-- `loss` leaves every other buffer as it was. -/
theorem loss_keeps (V : Valuation τ sig (Elt F)) {r : Ref sig .tc} (h : r ∉ lossW) :
    after loss V (no_index (Proc.devRef .tc r)) = V (Proc.devRef .tc r) :=
  after_of_writes_sub loss V (forall_writes_sub_of_map (W := lossW) rfl) h

theorem loss_sub : (loss : List (HloOp τ sig (Elt F))).Forall fun op => op.bufs ⊆ tcRefs τ sig :=
  ⟨nullary_bufs_sub .., unary_bufs_sub .., binary_bufs_sub .., binary_bufs_sub .., unary_bufs_sub .., unary_bufs_sub .., nullary_bufs_sub .., binary_bufs_sub .., nullary_bufs_sub .., binary_bufs_sub ..⟩

theorem loss_fresh : (loss : List (HloOp τ sig (Elt F))).Forall fun op => op.fresh = ∅ :=
  forall_fresh_of_map rfl

set_option maxRecDepth 4096 in
theorem part0_eq (c : Dev nD) : main_part0 (F := F) c = seq (denseA1 ++ normA1 ++ denseA2 ++ normA2 ++ denseA3) := by
  simp only [main_part0, denseA1, normA1, denseA2, normA2, denseA3, fn_var.body, fn_where.body, fn_relu.body, List.cons_append, List.nil_append, seq, bind_assoc, pure_bind]
  rfl

set_option maxRecDepth 4096 in
theorem part1_eq (c : Dev nD) : main_part1 (F := F) c = seq (denseB1 ++ normB1 ++ denseB2 ++ normB2 ++ denseB3) := by
  simp only [main_part1, denseB1, normB1, denseB2, normB2, denseB3, fn_var.body, fn_where.body, fn_relu.body, List.cons_append, List.nil_append, seq, bind_assoc, pure_bind]
  rfl

set_option maxRecDepth 4096 in
theorem part2_eq (c : Dev nD) : main_part2 (F := F) c = seq (unitA ++ unitB ++ simil ++ colsA ++ pairsA ++ colsB ++ pairsB ++ pairs) := by
  simp only [main_part2, unitA, unitB, simil, colsA, pairsA, colsB, pairsB, pairs, fn_norm.body, List.cons_append, List.nil_append, seq, bind_assoc, pure_bind]
  rfl

set_option maxRecDepth 4096 in
theorem part3_eq (c : Dev nD) : main_part3 (F := F) c = seq (expos ++ diag ++ masked ++ loss) := by
  simp only [main_part3, expos, diag, masked, loss, List.cons_append, List.nil_append, seq, bind_assoc, pure_bind]
  rfl

/-- The whole line. -/
abbrev ops : List (HloOp τ sig (Elt F)) :=
  (denseA1 ++ normA1 ++ denseA2 ++ normA2 ++ denseA3) ++
  (denseB1 ++ normB1 ++ denseB2 ++ normB2 ++ denseB3) ++
  (unitA ++ unitB ++ simil ++ colsA ++ pairsA ++ colsB ++ pairsB ++ pairs) ++
  (expos ++ diag ++ masked ++ loss)

theorem main_eq (c : Dev nD) : main (F := F) c = seq ops := by
  rw [ops, seq_append, seq_append, seq_append, ← part0_eq c, ← part1_eq c, ← part2_eq c, ← part3_eq c]
  simp only [main, bind_assoc]

theorem ops_sub : (ops : List (HloOp τ sig (Elt F))).Forall fun op => op.bufs ⊆ tcRefs τ sig := by
  unfold ops
  repeat rw [List.forall_append]
  simp only [denseA1_sub, normA1_sub, denseA2_sub, normA2_sub, denseA3_sub, denseB1_sub, normB1_sub, denseB2_sub, normB2_sub, denseB3_sub, unitA_sub, unitB_sub, simil_sub, colsA_sub, pairsA_sub, colsB_sub, pairsB_sub, pairs_sub, expos_sub, diag_sub, masked_sub, loss_sub, and_self]

theorem ops_fresh : (ops : List (HloOp τ sig (Elt F))).Forall fun op => op.fresh = ∅ := by
  unfold ops
  repeat rw [List.forall_append]
  simp only [denseA1_fresh, normA1_fresh, denseA2_fresh, normA2_fresh, denseA3_fresh, denseB1_fresh, normB1_fresh, denseB2_fresh, normB2_fresh, denseB3_fresh, unitA_fresh, unitB_fresh, simil_fresh, colsA_fresh, pairsA_fresh, colsB_fresh, pairsB_fresh, pairs_fresh, expos_fresh, diag_fresh, masked_fresh, loss_fresh, and_self]

theorem scopedRefs_eq : (Finset.univ.filter fun b : Ref sig .tc => b.isScoped) = ∅ := by decide
theorem scopedSems_eq : (Finset.univ.filter fun sm : SemLoc sig => sm.isScoped .tc) = ∅ := by decide

/-- Every fair execution ends with each buffer at the line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.Hand

end
-- ==== Proof.RefValue.lean ====
/-
  What the reference's lines compute, layer by layer, as functions of arrays, and the whole line's result as their
  composition (`result_eq`). `run_value` states the run with that result, and `frame` with its arguments as they were.
-/
module

public import proofs.«01_k».proof.Proof.RefRun
public import Idealize.ShloMosaic.Lib.StableHlo.RunHlo

@[expose] public section

noncomputable section

namespace Cert.ReferenceIdeal.Hand

open Idealize.ShloMosaic Idealize.ShloMosaic.TcCoe Idealize.ShloMosaic.StableHlo Idealize.SL.Sem
open Cert.ReferenceIdeal Cert.ReferenceIdeal.Gen

variable {F : FTy → Type} [FloatOps F]

/-- A vector of 256 entries on every one of 8192 rows. -/
def rows (b : FVec F S256 .f32) : FVec F S8192x256 .f32 :=
  broadcastInDim S8192x256 ![0, 1] bcast_S1x256_S8192x256_0_1 (broadcastInDim S1x256 ![1] bcast_S256_S1x256_1 b)

/-- A 32-bit float at every one of 256 places. -/
def at256 (w : BitVec 32) : FVec F S256 .f32 := broadcastInDim S256 ![] bcast_S_S256 (constant S_ .f32 w)

/-- The first linear layer. -/
def dense1 (x : FVec F S8192x512 .f32) (w : FVec F S512x256 .f32) (b : FVec F S256 .f32) : FVec F S8192x256 .f32 :=
  addf (Host.dotGeneral dot_S8192x512_S512x256_S8192x256_1_0_0_1_n_n none x w) (rows b)

/-- The second linear layer. -/
def dense2 (x : FVec F S8192x256 .f32) (w : FVec F S256x256 .f32) (b : FVec F S256 .f32) : FVec F S8192x256 .f32 :=
  addf (Host.dotGeneral dot_S8192x256_S256x256_S8192x256_1_0_0_1_n_n none x w) (rows b)

/-- The projection. -/
def dense3 (x : FVec F S8192x256 .f32) (w : FVec F S256x128 .f32) (b : FVec F S128 .f32) : FVec F S8192x128 .f32 :=
  addf (Host.dotGeneral dot_S8192x256_S256x128_S8192x128_1_0_0_1_n_n none x w)
    (broadcastInDim S8192x128 ![0, 1] bcast_S1x128_S8192x128_0_1 (broadcastInDim S1x128 ![1] bcast_S128_S1x128_1 b))

/-- The column sums. -/
def colSum (x : FVec F S8192x256 .f32) : FVec F S256 .f32 :=
  Host.reduceAdd x (constant S_ .f32 0x00000000#32) reducesTo_S8192x256_S256_d0 h_S_

/-- The column means. -/
def colMean (x : FVec F S8192x256 .f32) : FVec F S256 .f32 := Host.divf (colSum x) (at256 0x46000000#32)

/-- The columns' distances from their means. -/
def centred (x : FVec F S8192x256 .f32) : FVec F S8192x256 .f32 :=
  subf x (broadcastInDim S8192x256 ![0, 1] bcast_S1x256_S8192x256_0_1
    (Host.divf (broadcastInDim S1x256 ![1] bcast_S256_S1x256_1 (colSum x))
      (broadcastInDim S1x256 ![] bcast_S_S1x256 (constant S_ .f32 0x46000000#32))))

/-- The number of rows less the correction, which is none. -/
def count : FVec F S_ .f32 := subf (constant S_ .f32 0x46000000#32) (sitofp .f32 (constantI S_ 32 0#32))

/-- The column variances. -/
def colVar (x : FVec F S8192x256 .f32) : FVec F S256 .f32 :=
  select (broadcastInDim S256 ![] bcast_S_S256 (cmpf .ogt (count (F := F)) (constant S_ .f32 0x00000000#32)))
    (Host.divf (colSum (mulf (centred x) (centred x))) (broadcastInDim S256 ![] bcast_S_S256 count))
    (at256 0x7FC00000#32)

/-- The batch normalisation. -/
def batchNorm (x : FVec F S8192x256 .f32) (g b : FVec F S256 .f32) : FVec F S8192x256 .f32 :=
  addf (mulf (mulf (subf x (rows (colMean x))) (rows (Host.rsqrt (addf (colVar x) (at256 0x3727C5AC#32))))) (rows g)) (rows b)

/-- The batch normalisation with its rectifier. -/
def normed (x : FVec F S8192x256 .f32) (g b : FVec F S256 .f32) : FVec F S8192x256 .f32 :=
  maximumf (batchNorm x g b) (broadcastInDim S8192x256 ![] bcast_S_S8192x256 (constant S_ .f32 0x00000000#32))

/-- The rows over their clamped norms. -/
def unitRows (z : FVec F S8192x128 .f32) : FVec F S8192x128 .f32 :=
  Host.divf z (broadcastInDim S8192x128 ![0, 1] bcast_S8192x1_S8192x128_0_1
    (maximumf
      (Host.sqrt (broadcastInDim S8192x1 ![0] bcast_S8192_S8192x1_0
        (Host.reduceAdd (mulf z z) (constant S_ .f32 0x00000000#32) reducesTo_S8192x128_S8192_d1 h_S_)))
      (broadcastInDim S8192x1 ![] bcast_S_S8192x1 (constant S_ .f32 0x2B8CBCCC#32))))

/-- One half's projection. -/
def project (x : FVec F S8192x512 .f32) (w1 : FVec F S512x256 .f32) (b1 g1 be1 : FVec F S256 .f32)
    (w2 : FVec F S256x256 .f32) (b2 g2 be2 : FVec F S256 .f32) (w3 : FVec F S256x128 .f32) (b3 : FVec F S128 .f32) :
    FVec F S8192x128 .f32 :=
  dense3 (normed (dense2 (normed (dense1 x w1 b1) g1 be1) w2 b2) g2 be2) w3 b3

/-- The two halves one above the other. -/
def both (u v : FVec F S8192x128 .f32) : FVec F S16384x128 .f32 :=
  concatenate S16384x128 0 [⟨S8192x128, u⟩, ⟨S8192x128, v⟩] concatenates_S8192x128_S8192x128_S16384x128_d0

/-- Every pair of rows' similarity. -/
def similarities (u v : FVec F S8192x128 .f32) : FVec F S16384x16384 .f32 :=
  Host.dotGeneral dot_S16384x128_S128x16384_S16384x16384_1_0_0_1_n_n none (both u v)
    (transpose S128x16384 [1, 0] (both u v) transposes_S16384x128_S128x16384_1_0)

/-- The row numbers of one half. -/
def halfIdx : IVec S8192 32 := iotaInDim S8192 32 0

/-- Row numbers shifted to the other half. -/
def otherIdx (i : IVec S8192 32) : IVec S8192 32 := addi i (broadcastInDim S8192 ![] bcast_S_S8192 (constantI S_ 32 8192#32))

/-- An index counted from the end where it is negative. -/
def wrapped (i : IVec S8192 32) : IVec S8192 32 :=
  select (cmpi .slt i (broadcastInDim S8192 ![] bcast_S_S8192 (constantI S_ 32 0#32)))
    (addi i (broadcastInDim S8192 ![] bcast_S_S8192 (constantI S_ 32 16384#32))) i

/-- Such indices, as a column. -/
def column (i : IVec S8192 32) : IVec S8192x1 32 := broadcastInDim S8192x1 ![0] bcast_S8192_S8192x1_0 (wrapped i)

/-- The entries of `s` at the rows `i` and the columns `j`. -/
def readAt (s : FVec F S16384x16384 .f32) (i j : IVec S8192x1 32) : FVec F S8192 .f32 :=
  Host.gather gather_S16384x16384_S8192x2_S8192_n_01_n_n_01_1_11 s
    (concatenate S8192x2 1 [⟨S8192x1, i⟩, ⟨S8192x1, j⟩] concatenates_S8192x1_S8192x1_S8192x2_d1)

/-- Two halves' numbers one after the other. -/
def stacked (p q : FVec F S8192 .f32) : FVec F S16384 .f32 :=
  concatenate S16384 0 [⟨S8192, p⟩, ⟨S8192, q⟩] concatenates_S8192_S8192_S16384_d0

/-- Each row's similarity to its partner in the other half. -/
def partners (s : FVec F S16384x16384 .f32) : FVec F S16384 .f32 :=
  stacked (readAt s (column halfIdx) (column (otherIdx halfIdx))) (readAt s (column (otherIdx halfIdx)) (column halfIdx))

/-- The row numbers of both halves. -/
def allIdx : IVec S16384 32 := iotaInDim S16384 32 0

/-- The same, counted from the end where negative. -/
def allWrapped : IVec S16384 32 :=
  select (cmpi .slt allIdx (broadcastInDim S16384 ![] bcast_S_S16384 (constantI S_ 32 0#32)))
    (addi allIdx (broadcastInDim S16384 ![] bcast_S_S16384 (constantI S_ 32 16384#32))) allIdx

/-- Such indices, as a column. -/
def allColumn : IVec S16384x1 32 := broadcastInDim S16384x1 ![0] bcast_S16384_S16384x1_0 allWrapped

/-- Each row's sum. -/
def rowSums (s : FVec F S16384x16384 .f32) : FVec F S16384 .f32 :=
  Host.reduceAdd s (constant S_ .f32 0x00000000#32) reducesTo_S16384x16384_S16384_d1 h_S_

/-- The numbers `r` less the entries of `s` at the rows `i` and the columns `j`. -/
def lessEntries (r : FVec F S16384 .f32) (s : FVec F S16384x16384 .f32) (i j : IVec S16384x1 32) : FVec F S16384 .f32 :=
  subf r (Host.gather gather_S16384x16384_S16384x2_S16384_n_01_n_n_01_1_11 s
    (concatenate S16384x2 1 [⟨S16384x1, i⟩, ⟨S16384x1, j⟩] concatenates_S16384x1_S16384x1_S16384x2_d1))

/-- Each row's sum without its diagonal entry. -/
def maskedSums (s : FVec F S16384x16384 .f32) : FVec F S16384 .f32 := lessEntries (rowSums s) s allColumn allColumn

/-- An array over the temperature. -/
def overTemp (p : FVec F S16384 .f32) : FVec F S16384 .f32 :=
  Host.divf p (broadcastInDim S16384 ![] bcast_S_S16384 (constant S_ .f32 0x3D8F5C29#32))

/-- The mean loss of the nominators `n` and the masked sums `d`. -/
def meanLoss (n d : FVec F S16384 .f32) : FVec F S_ .f32 :=
  Host.divf
    (Host.reduceAdd (Host.negf (Host.log (Host.divf n (overTemp d)))) (constant S_ .f32 0x00000000#32) reducesTo_S16384_S_d0 h_S_)
    (constant S_ .f32 0x46800000#32)

/-- The loss of a matrix of similarities. -/
def lossOf (s : FVec F S16384x16384 .f32) : FVec F S_ .f32 :=
  meanLoss (Host.exp (overTemp (partners s))) (maskedSums s)

/-- The similarities of the whole input. -/
def allSims (x1 x2 : FVec F S8192x512 .f32) (w1 : FVec F S512x256 .f32) (b1 g1 be1 : FVec F S256 .f32)
    (w2 : FVec F S256x256 .f32) (b2 g2 be2 : FVec F S256 .f32) (w3 : FVec F S256x128 .f32) (b3 : FVec F S128 .f32) :
    FVec F S16384x16384 .f32 :=
  similarities (unitRows (project x1 w1 b1 g1 be1 w2 b2 g2 be2 w3 b3)) (unitRows (project x2 w1 b1 g1 be1 w2 b2 g2 be2 w3 b3))

section Lines

variable (V : Valuation τ sig (Elt F))

theorem denseA1_v3 : after denseA1 V (no_index (main_v3 : DevRef τ sig)) = dense1 (V (main_arg0 : DevRef τ sig)) (V (main_arg2 : DevRef τ sig)) (V (main_arg3 : DevRef τ sig)) := by
  unfold denseA1
  after_results_simp
  rfl

theorem normA1_v23 : after normA1 V (no_index (main_v23 : DevRef τ sig)) = normed (V (main_v3 : DevRef τ sig)) (V (main_arg4 : DevRef τ sig)) (V (main_arg5 : DevRef τ sig)) := by
  unfold normA1
  after_results_simp
  rfl

theorem denseA2_v27 : after denseA2 V (no_index (main_v27 : DevRef τ sig)) = dense2 (V (main_v23 : DevRef τ sig)) (V (main_arg6 : DevRef τ sig)) (V (main_arg7 : DevRef τ sig)) := by
  unfold denseA2
  after_results_simp
  rfl

theorem normA2_v47 : after normA2 V (no_index (main_v47 : DevRef τ sig)) = normed (V (main_v27 : DevRef τ sig)) (V (main_arg8 : DevRef τ sig)) (V (main_arg9 : DevRef τ sig)) := by
  unfold normA2
  after_results_simp
  rfl

theorem denseA3_v51 : after denseA3 V (no_index (main_v51 : DevRef τ sig)) = dense3 (V (main_v47 : DevRef τ sig)) (V (main_arg10 : DevRef τ sig)) (V (main_arg11 : DevRef τ sig)) := by
  unfold denseA3
  after_results_simp
  rfl

theorem denseB1_v55 : after denseB1 V (no_index (main_v55 : DevRef τ sig)) = dense1 (V (main_arg1 : DevRef τ sig)) (V (main_arg2 : DevRef τ sig)) (V (main_arg3 : DevRef τ sig)) := by
  unfold denseB1
  after_results_simp
  rfl

theorem normB1_v75 : after normB1 V (no_index (main_v75 : DevRef τ sig)) = normed (V (main_v55 : DevRef τ sig)) (V (main_arg4 : DevRef τ sig)) (V (main_arg5 : DevRef τ sig)) := by
  unfold normB1
  after_results_simp
  rfl

theorem denseB2_v79 : after denseB2 V (no_index (main_v79 : DevRef τ sig)) = dense2 (V (main_v75 : DevRef τ sig)) (V (main_arg6 : DevRef τ sig)) (V (main_arg7 : DevRef τ sig)) := by
  unfold denseB2
  after_results_simp
  rfl

theorem normB2_v99 : after normB2 V (no_index (main_v99 : DevRef τ sig)) = normed (V (main_v79 : DevRef τ sig)) (V (main_arg8 : DevRef τ sig)) (V (main_arg9 : DevRef τ sig)) := by
  unfold normB2
  after_results_simp
  rfl

theorem denseB3_v103 : after denseB3 V (no_index (main_v103 : DevRef τ sig)) = dense3 (V (main_v99 : DevRef τ sig)) (V (main_arg10 : DevRef τ sig)) (V (main_arg11 : DevRef τ sig)) := by
  unfold denseB3
  after_results_simp
  rfl

theorem unitA_v108 : after unitA V (no_index (main_v108 : DevRef τ sig)) = unitRows (V (main_v51 : DevRef τ sig)) := by
  unfold unitA
  after_results_simp
  rfl

theorem unitB_v113 : after unitB V (no_index (main_v113 : DevRef τ sig)) = unitRows (V (main_v103 : DevRef τ sig)) := by
  unfold unitB
  after_results_simp
  rfl

theorem simil_v116 : after simil V (no_index (main_v116 : DevRef τ sig)) = similarities (V (main_v108 : DevRef τ sig)) (V (main_v113 : DevRef τ sig)) := by
  unfold simil
  after_results_simp
  rfl

theorem colsA_v117 : after colsA V (no_index (main_v117 : DevRef τ sig)) = halfIdx  := by
  unfold colsA
  after_results_simp
  rfl

theorem colsA_v130 : after colsA V (no_index (main_v130 : DevRef τ sig)) = column halfIdx  := by
  unfold colsA
  after_results_simp
  rfl

theorem colsA_v131 : after colsA V (no_index (main_v131 : DevRef τ sig)) = column (otherIdx halfIdx)  := by
  unfold colsA
  after_results_simp
  rfl

theorem pairsA_v133 : after pairsA V (no_index (main_v133 : DevRef τ sig)) = readAt (V (main_v116 : DevRef τ sig)) (V (main_v130 : DevRef τ sig)) (V (main_v131 : DevRef τ sig)) := by
  unfold pairsA
  after_results_simp
  rfl

theorem colsB_v146 : after colsB V (no_index (main_v146 : DevRef τ sig)) = column (otherIdx (V (main_v117 : DevRef τ sig))) := by
  unfold colsB
  after_results_simp
  rfl

theorem colsB_v147 : after colsB V (no_index (main_v147 : DevRef τ sig)) = column (V (main_v117 : DevRef τ sig)) := by
  unfold colsB
  after_results_simp
  rfl

theorem pairsB_v149 : after pairsB V (no_index (main_v149 : DevRef τ sig)) = readAt (V (main_v116 : DevRef τ sig)) (V (main_v146 : DevRef τ sig)) (V (main_v147 : DevRef τ sig)) := by
  unfold pairsB
  after_results_simp
  rfl

theorem pairs_v150 : after pairs V (no_index (main_v150 : DevRef τ sig)) = stacked (V (main_v133 : DevRef τ sig)) (V (main_v149 : DevRef τ sig)) := by
  unfold pairs
  after_results_simp
  rfl

theorem pairs_cst_26 : after pairs V (no_index (main_cst_26 : DevRef τ sig)) = constant S_ .f32 0x3D8F5C29#32  := by
  unfold pairs
  after_results_simp

theorem diag_v155 : after diag V (no_index (main_v155 : DevRef τ sig)) = rowSums (V (main_v116 : DevRef τ sig)) := by
  unfold diag
  after_results_simp
  rfl

theorem diag_v166 : after diag V (no_index (main_v166 : DevRef τ sig)) = allColumn  := by
  unfold diag
  after_results_simp
  rfl

theorem diag_v167 : after diag V (no_index (main_v167 : DevRef τ sig)) = allColumn  := by
  unfold diag
  after_results_simp
  rfl

theorem masked_v170 : after masked V (no_index (main_v170 : DevRef τ sig)) = lessEntries (V (main_v155 : DevRef τ sig)) (V (main_v116 : DevRef τ sig)) (V (main_v166 : DevRef τ sig)) (V (main_v167 : DevRef τ sig)) := by
  unfold masked
  after_results_simp
  rfl

theorem loss_v177 : after loss V (no_index (main_v177 : DevRef τ sig)) = meanLoss (V (main_v153 : DevRef τ sig)) (V (main_v170 : DevRef τ sig)) := by
  unfold loss
  after_results_simp
  rfl

theorem expos_v153 : after expos V (no_index (main_v153 : DevRef τ sig))
    = Host.exp (Host.divf (V (main_v150 : DevRef τ sig))
        (broadcastInDim S16384 ![] bcast_S_S16384 (V (main_cst_26 : DevRef τ sig)))) := by
  unfold expos
  after_results_simp

/-- The whole line's result is the loss of the whole input's similarities. -/
theorem result_eq : after ops V (main_v177 : DevRef τ sig)
    = lossOf (allSims (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig))) := by
  simp (disch := decide) only [ops, after_append, denseA1_v3, normA1_v23, denseA2_v27, normA2_v47, denseA3_v51, denseB1_v55, normB1_v75, denseB2_v79, normB2_v99, denseB3_v103, unitA_v108, unitB_v113, simil_v116, colsA_v117, colsA_v130, colsA_v131, pairsA_v133, colsB_v146, colsB_v147, pairsB_v149, pairs_v150, pairs_cst_26, diag_v155, diag_v166, diag_v167, masked_v170, loss_v177, expos_v153,
    denseA1_keeps, normA1_keeps, denseA2_keeps, normA2_keeps, denseA3_keeps, denseB1_keeps, normB1_keeps, denseB2_keeps, normB2_keeps, denseB3_keeps, unitA_keeps, unitB_keeps, simil_keeps, colsA_keeps, pairsA_keeps, colsB_keeps, pairsB_keeps, pairs_keeps, expos_keeps, diag_keeps, masked_keeps, loss_keeps]
  simp only [lossOf, allSims, overTemp, project, partners, maskedSums]

/-- Everything the lines write. -/
abbrev opsW : List (Ref sig .tc) :=
  denseA1W ++ normA1W ++ denseA2W ++ normA2W ++ denseA3W ++ denseB1W ++ normB1W ++ denseB2W ++ normB2W ++ denseB3W ++ unitAW ++ unitBW ++ similW ++ colsAW ++ pairsAW ++ colsBW ++ pairsBW ++ pairsW ++ exposW ++ diagW ++ maskedW ++ lossW

/-- The lines leave every other buffer as it was. -/
theorem ops_keeps {r : Ref sig .tc} (h : r ∉ opsW) : after ops V (Proc.devRef .tc r) = V (Proc.devRef .tc r) := by
  simp only [opsW, List.mem_append, not_or] at h
  obtain ⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩ := h
  rw [ops]
  simp only [after_append]
  rw [loss_keeps _ h21, masked_keeps _ h20, diag_keeps _ h19, expos_keeps _ h18, pairs_keeps _ h17, pairsB_keeps _ h16, colsB_keeps _ h15, pairsA_keeps _ h14, colsA_keeps _ h13, simil_keeps _ h12, unitB_keeps _ h11, unitA_keeps _ h10, denseB3_keeps _ h9, normB2_keeps _ h8, denseB2_keeps _ h7, normB1_keeps _ h6, denseB1_keeps _ h5, denseA3_keeps _ h4, normA2_keeps _ h3, denseA2_keeps _ h2, normA1_keeps _ h1, denseA1_keeps _ h0]

end Lines

/-- What a run ends with: the loss in the result, and the arguments as they were. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v177)
        = lossOf (allSims (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) :=
  θ_run_mono (run_main m ρ) fun _ h c =>
    ⟨(h c main_v177).trans (result_eq _), (h c main_arg0).trans (ops_keeps _ (by decide)), (h c main_arg1).trans (ops_keeps _ (by decide)), (h c main_arg2).trans (ops_keeps _ (by decide)), (h c main_arg3).trans (ops_keeps _ (by decide)), (h c main_arg4).trans (ops_keeps _ (by decide)), (h c main_arg5).trans (ops_keeps _ (by decide)), (h c main_arg6).trans (ops_keeps _ (by decide)), (h c main_arg7).trans (ops_keeps _ (by decide)), (h c main_arg8).trans (ops_keeps _ (by decide)), (h c main_arg9).trans (ops_keeps _ (by decide)), (h c main_arg10).trans (ops_keeps _ (by decide)), (h c main_arg11).trans (ops_keeps _ (by decide))⟩

end Cert.ReferenceIdeal.Hand

end
-- ==== Proof.Spec.lean ====
/-
  The loss over the real numbers: the layers, the unit rows, the similarities and the loss of a row, as functions of row
  and column numbers, with the identities between the two ways in which they are computed.
-/
module

public import Idealize.ShloMosaic.PureOps.Ideal
public import Idealize.ShloMosaic.PureOps.Ideal.Laws
public import Idealize.ShloMosaic.Lib.Pointwise

@[expose] public section

noncomputable section

namespace Cert.Loss

open Idealize.ShloMosaic Finset

/-- A linear layer of `n` inputs. -/
def lin (n : ℕ) (x w : ℕ → ℕ → ℝ) (b : ℕ → ℝ) (i c : ℕ) : ℝ := ∑ k ∈ range n, x i k * w k c + b c

/-- A column's mean. -/
def mean (a : ℕ → ℕ → ℝ) (c : ℕ) : ℝ := (∑ i ∈ range 8192, a i c) / 8192

/-- A column's variance. -/
def var (a : ℕ → ℕ → ℝ) (c : ℕ) : ℝ := (∑ i ∈ range 8192, (a i c - mean a c) * (a i c - mean a c)) / 8192

/-- The number added to a variance. -/
def eps : ℝ := 10995116 / 1099511627776

/-- The reciprocal of a column's deviation. -/
def rdev (a : ℕ → ℕ → ℝ) (c : ℕ) : ℝ := (Real.sqrt (var a c + eps))⁻¹

/-- The batch normalisation with its rectifier. -/
def norm (a : ℕ → ℕ → ℝ) (g b : ℕ → ℝ) (i c : ℕ) : ℝ := max ((a i c - mean a c) * rdev a c * g c + b c) 0

/-- The least norm that a row is divided by. -/
def tiny : ℝ := 9223372 / 9223372036854775808

/-- A row's squared norm. -/
def sq (z : ℕ → ℕ → ℝ) (i : ℕ) : ℝ := ∑ c ∈ range 128, z i c * z i c

/-- The rows over their clamped norms. -/
def unit (z : ℕ → ℕ → ℝ) (i c : ℕ) : ℝ := z i c / max (Real.sqrt (sq z i)) tiny

/-- The unit rows of one half's projection. -/
def row (x w1 : ℕ → ℕ → ℝ) (b1 g1 be1 : ℕ → ℝ) (w2 : ℕ → ℕ → ℝ) (b2 g2 be2 : ℕ → ℝ) (w3 : ℕ → ℕ → ℝ) (b3 : ℕ → ℝ) : ℕ → ℕ → ℝ :=
  unit (lin 256 (norm (lin 256 (norm (lin 512 x w1 b1) g1 be1) w2 b2) g2 be2) w3 b3)

/-- Two halves of 8192 rows, one above the other. -/
def both (u v : ℕ → ℕ → ℝ) (i c : ℕ) : ℝ := if i < 8192 then u i c else v (i - 8192) c

/-- The similarity of two rows. -/
def sim (u : ℕ → ℕ → ℝ) (i j : ℕ) : ℝ := ∑ c ∈ range 128, u i c * u j c

/-- A row's similarities to the other rows, added up. -/
def den (u : ℕ → ℕ → ℝ) (i : ℕ) : ℝ := ∑ j ∈ range 16384, sim u i j - sim u i i

/-- A row's partner in the other half. -/
def mate (i : ℕ) : ℕ := if i < 8192 then i + 8192 else i - 8192

/-- The temperature. -/
def temp : ℝ := 9395241 / 134217728

/-- A row's loss: an extended real, because the logarithm of zero is `⊥`. -/
def rowLoss (u : ℕ → ℕ → ℝ) (i : ℕ) : EReal :=
  ((-(sim u i (mate i) / temp) : ℝ) : EReal) + Ideal.log ((den u i / temp : ℝ) : EReal)

/-- The mean loss. -/
def loss (u : ℕ → ℕ → ℝ) : EReal := (∑ i ∈ range 16384, rowLoss u i) * ((1 / 16384 : ℝ) : EReal)

theorem eps_pos : 0 < eps := by norm_num [eps]

theorem tiny_pos : 0 < tiny := by norm_num [tiny]

theorem temp_pos : 0 < temp := by norm_num [temp]

theorem var_nonneg (a : ℕ → ℕ → ℝ) (c : ℕ) : 0 ≤ var a c :=
  div_nonneg (sum_nonneg fun i _ => mul_self_nonneg _) (by norm_num)

/-- The variance is the mean of the squares less the square of the mean. -/
theorem var_eq (a : ℕ → ℕ → ℝ) (c : ℕ) :
    (∑ i ∈ range 8192, a i c * a i c) * (1 / 8192) - (∑ i ∈ range 8192, a i c) * (1 / 8192) * ((∑ i ∈ range 8192, a i c) * (1 / 8192))
      = var a c := by
  have h : ∀ i, (a i c - mean a c) * (a i c - mean a c) = a i c * a i c - 2 * mean a c * a i c + mean a c * mean a c := fun i => by ring
  unfold var
  simp only [h, sum_add_distrib, sum_sub_distrib, ← mul_sum, sum_const, card_range, nsmul_eq_mul]
  unfold mean
  push_cast
  ring

/-- The normalisation as one scale and one shift per column. -/
theorem norm_eq (a : ℕ → ℕ → ℝ) (g b : ℕ → ℝ) (i c : ℕ) :
    max (a i c * (rdev a c * g c) + (b c - (∑ i ∈ range 8192, a i c) * (1 / 8192) * (rdev a c * g c))) 0 = norm a g b i c := by
  unfold norm mean
  congr 1
  ring

/-- The clamp may be put on the squared norm. -/
theorem unit_eq (z : ℕ → ℕ → ℝ) (i c : ℕ) : z i c * (Real.sqrt (max (sq z i) (tiny * tiny)))⁻¹ = unit z i c := by
  have h : Real.sqrt (max (sq z i) (tiny * tiny)) = max (Real.sqrt (sq z i)) tiny := by
    rw [Real.sqrt_monotone.map_max, Real.sqrt_mul_self tiny_pos.le]
  rw [h, unit, div_eq_mul_inv]

/-- The sum of a row's similarities is its product with the sum of the rows. -/
theorem den_eq (u : ℕ → ℕ → ℝ) (i : ℕ) :
    ∑ c ∈ range 128, u i c * (∑ j ∈ range 16384, u j c - u i c) = den u i := by
  unfold den sim
  rw [sum_comm]
  simp only [← mul_sum, mul_sub, sum_sub_distrib]

theorem sim_comm (u : ℕ → ℕ → ℝ) (i j : ℕ) : sim u i j = sim u j i := sum_congr rfl fun _ _ => mul_comm _ _

theorem log_ne_top (d : ℝ) : Ideal.log (d : EReal) ≠ ⊤ := by
  rw [Ideal.log_coe]; split <;> simp

theorem rowLoss_ne_top (u : ℕ → ℕ → ℝ) (i : ℕ) : rowLoss u i ≠ ⊤ := by
  unfold rowLoss
  exact EReal.add_ne_top (EReal.coe_ne_top _) (log_ne_top _)

/-- Twice a similarity over the temperature less the two logarithms is the loss of the pair, negated. -/
theorem pair_eq (u : ℕ → ℕ → ℝ) {i : ℕ} (hi : i < 8192) :
    ((sim u i (i + 8192) * (2 / temp) : ℝ) : EReal) - Ideal.log ((den u i / temp : ℝ) : EReal)
        - Ideal.log ((den u (i + 8192) / temp : ℝ) : EReal)
      = -(rowLoss u i + rowLoss u (i + 8192)) := by
  have e1 : mate i = i + 8192 := if_pos hi
  have e2 : mate (i + 8192) = i := by unfold mate; rw [if_neg (by omega)]; omega
  unfold rowLoss
  rw [e1, e2, sim_comm u (i + 8192) i]
  generalize den u i / temp = d1
  generalize den u (i + 8192) / temp = d2
  rw [Ideal.log_coe, Ideal.log_coe]
  split <;> split
  case isFalse.isFalse =>
    rw [← EReal.coe_sub, ← EReal.coe_sub, ← EReal.coe_add, ← EReal.coe_add, ← EReal.coe_add, ← EReal.coe_neg]
    refine congrArg _ ?_
    ring
  all_goals simp only [sub_eq_add_neg, EReal.neg_bot, EReal.coe_add_top, EReal.top_add_top, EReal.top_add_coe,
    ← EReal.coe_neg, ← EReal.coe_add, EReal.add_bot, EReal.bot_add]

/-- A sum of negated numbers, none of which is `⊤`. -/
theorem sum_neg_ne_top (f : ℕ → EReal) (n : ℕ) (hf : ∀ i, f i ≠ ⊤) :
    ∑ i ∈ range n, -f i = -∑ i ∈ range n, f i ∧ ∑ i ∈ range n, f i ≠ ⊤ := by
  induction n with
  | zero => simp
  | succ n ih =>
    rw [sum_range_succ, sum_range_succ, ih.1]
    exact ⟨(by rw [EReal.neg_add (.inr (hf n)) (.inl ih.2), sub_eq_add_neg]), EReal.add_ne_top ih.2 (hf n)⟩

/-! ## Arrays of real numbers -/

/-- The vector with the entries `f`. -/
def A1 {n : ℕ} {φ : FTy} (f : ℕ → ℝ) : FVec Ideal ⟨1, ![n]⟩ φ := fun y => ((f (y 0).val : ℝ) : EReal)

/-- The matrix with the entries `f`. -/
def A2 {n k : ℕ} {φ : FTy} (f : ℕ → ℕ → ℝ) : FVec Ideal ⟨2, ![n, k]⟩ φ := fun y => ((f (y 0).val (y 1).val : ℝ) : EReal)

/-- The same at a 32-bit float's format. -/
abbrev M {n k : ℕ} (f : ℕ → ℕ → ℝ) : FVec Ideal ⟨2, ![n, k]⟩ .f32 := A2 f

/-- The same at a 16-bit float's format. -/
abbrev MW {n k : ℕ} (f : ℕ → ℕ → ℝ) : FVec Ideal ⟨2, ![n, k]⟩ .bf16 := A2 f

/-- One row with the entries `f`. -/
abbrev R {k : ℕ} (f : ℕ → ℝ) : FVec Ideal ⟨2, ![1, k]⟩ .f32 := A2 fun _ => f

theorem A1_apply {n : ℕ} {φ : FTy} (f : ℕ → ℝ) (a : Fin n) : (A1 f : FVec Ideal ⟨1, ![n]⟩ φ) (ix1 a) = ((f a.val : ℝ) : EReal) := rfl

theorem A2_apply {n k : ℕ} {φ : FTy} (f : ℕ → ℕ → ℝ) (a : Fin n) (b : Fin k) :
    (A2 f : FVec Ideal ⟨2, ![n, k]⟩ φ) (ix2 a b) = ((f a.val b.val : ℝ) : EReal) := rfl

/-- A sum of real numbers over the places of a row. -/
theorem sum_coe (n : ℕ) (f : ℕ → ℝ) : ∑ k : Fin n, ((f k.val : ℝ) : EReal) = ((∑ k ∈ range n, f k : ℝ) : EReal) := by
  rw [← Finset.sum_range (fun k => ((f k : ℝ) : EReal))]
  induction n with
  | zero => simp
  | succ n ih => rw [sum_range_succ, sum_range_succ, ih, EReal.coe_add]

/-! ## The operations on real numbers -/

theorem div_real (x : ℝ) {y : ℝ} (h : y ≠ 0) : Ideal.div (x : EReal) (y : EReal) = ((x / y : ℝ) : EReal) := by
  rw [Ideal.div_coe h, ← EReal.coe_mul]
  congr 1
  ring

theorem rsqrt_real {x : ℝ} (h : 0 < x) : Ideal.rsqrt (x : EReal) = (((Real.sqrt x)⁻¹ : ℝ) : EReal) := by
  rw [Ideal.rsqrt_coe, if_neg h.not_gt, if_neg h.ne']

theorem sqrt_real {x : ℝ} (h : 0 ≤ x) : Ideal.sqrt (x : EReal) = ((Real.sqrt x : ℝ) : EReal) := by
  rw [Ideal.sqrt_coe, if_neg h.not_gt]

theorem max_real (x y : ℝ) : max (x : EReal) (y : EReal) = ((max x y : ℝ) : EReal) :=
  (EReal.coe_strictMono.monotone.map_max).symm

/-! ## The words of the two programs -/

theorem word_8192 : Ideal.ofBits .f32 0x46000000#32 = ((8192 : ℝ) : EReal) := by
  simp [Ideal.ofBits, Ideal.ieee, -EReal.coe_mul]; norm_num

theorem word_inv_8192 : Ideal.ofBits .f32 0x39000000#32 = ((1 / 8192 : ℝ) : EReal) := by
  simp [Ideal.ofBits, Ideal.ieee, -EReal.coe_mul]; norm_num

theorem word_eps : Ideal.ofBits .f32 0x3727C5AC#32 = ((eps : ℝ) : EReal) := by
  simp [Ideal.ofBits, Ideal.ieee, -EReal.coe_mul, eps]; norm_num

theorem word_tiny : Ideal.ofBits .f32 0x2B8CBCCC#32 = ((tiny : ℝ) : EReal) := by
  simp [Ideal.ofBits, Ideal.ieee, -EReal.coe_mul, tiny]; norm_num

theorem word_temp : Ideal.ofBits .f32 0x3D8F5C29#32 = ((temp : ℝ) : EReal) := by
  simp [Ideal.ofBits, Ideal.ieee, -EReal.coe_mul, temp]; norm_num

theorem word_16384 : Ideal.ofBits .f32 0x46800000#32 = ((16384 : ℝ) : EReal) := by
  simp [Ideal.ofBits, Ideal.ieee, -EReal.coe_mul]; norm_num

theorem word_share : Ideal.ofBits .f32 0xB8800000#32 = ((-(1 / 16384) : ℝ) : EReal) := by
  simp [Ideal.ofBits, Ideal.ieee, -EReal.coe_mul]; norm_num

end Cert.Loss

end
-- ==== Proof.RefReal.lean ====
/-
  The reference's functions on arrays of real numbers.
-/
module

public import proofs.«01_k».proof.Proof.RefValue
public import proofs.«01_k».proof.Proof.Spec

@[expose] public section

set_option maxRecDepth 16384

noncomputable section

namespace Cert.ReferenceIdeal.Hand

open Idealize.ShloMosaic Cert.ReferenceIdeal Cert.ReferenceIdeal.Gen Cert.Loss

theorem dense1_real (x w : ℕ → ℕ → ℝ) (b : ℕ → ℝ) : dense1 (F := Ideal) (A2 x) (A2 w) (A1 b) = A2 (lin 512 x w b) := by
  funext y
  idx_vars y
  pointwise [dense1, rows]
  simp only [A2_apply, A1_apply, ← EReal.coe_mul]
  rw [sum_coe 512 fun k => x y0.val k * w k y1.val, ← EReal.coe_add]
  rfl

theorem dense2_real (x w : ℕ → ℕ → ℝ) (b : ℕ → ℝ) : dense2 (F := Ideal) (A2 x) (A2 w) (A1 b) = A2 (lin 256 x w b) := by
  funext y
  idx_vars y
  pointwise [dense2, rows]
  simp only [A2_apply, A1_apply, ← EReal.coe_mul]
  rw [sum_coe 256 fun k => x y0.val k * w k y1.val, ← EReal.coe_add]
  rfl

theorem dense3_real (x w : ℕ → ℕ → ℝ) (b : ℕ → ℝ) : dense3 (F := Ideal) (A2 x) (A2 w) (A1 b) = A2 (lin 256 x w b) := by
  funext y
  idx_vars y
  pointwise [dense3]
  simp only [A2_apply, A1_apply, ← EReal.coe_mul]
  rw [sum_coe 256 fun k => x y0.val k * w k y1.val, ← EReal.coe_add]
  rfl

theorem colSum_real (a : ℕ → ℕ → ℝ) : colSum (F := Ideal) (A2 a) = A1 fun c => ∑ i ∈ Finset.range 8192, a i c := by
  funext y
  idx_vars y
  pointwise [colSum]
  exact sum_coe 8192 fun k => a k y0.val

theorem colMean_real (a : ℕ → ℕ → ℝ) : colMean (F := Ideal) (A2 a) = A1 (mean a) := by
  funext y
  idx_vars y
  unfold colMean
  rw [colSum_real]
  pointwise [at256]
  simp only [A1_apply, word_8192]
  rw [div_real _ (by norm_num)]
  rfl

theorem centred_real (a : ℕ → ℕ → ℝ) : centred (F := Ideal) (A2 a) = A2 fun i c => a i c - mean a c := by
  funext y
  idx_vars y
  unfold centred
  rw [colSum_real]
  pointwise
  simp only [A1_apply, A2_apply, word_8192]
  rw [div_real _ (by norm_num), ← EReal.coe_sub]
  rfl

theorem count_real (y : S_.Idx) : count (F := Ideal) y = ((8192 : ℝ) : EReal) := by
  pointwise [count]
  simp only [word_8192]
  show ((8192 : ℝ) : EReal) - (((0#32 : BitVec 32).toInt : ℝ) : EReal) = _
  simp

theorem colVar_real (a : ℕ → ℕ → ℝ) : colVar (F := Ideal) (A2 a) = A1 (var a) := by
  funext y
  idx_vars y
  unfold colVar
  rw [centred_real, show mulf (F := Ideal) (s := S8192x256) (φ := .f32) (A2 fun i c => a i c - mean a c) (A2 fun i c => a i c - mean a c)
    = A2 fun i c => (a i c - mean a c) * (a i c - mean a c) from rfl, colSum_real]
  pointwise
  simp only [A1_apply, count_real]
  rw [div_real _ (by norm_num), if_pos (EReal.coe_pos.mpr (by norm_num))]
  rfl

theorem normed_real (a : ℕ → ℕ → ℝ) (g b : ℕ → ℝ) : normed (F := Ideal) (A2 a) (A1 g) (A1 b) = A2 (norm a g b) := by
  funext y
  idx_vars y
  unfold normed batchNorm
  rw [colMean_real, colVar_real]
  pointwise [rows, at256]
  simp only [A1_apply, A2_apply, word_eps, ← EReal.coe_add, rsqrt_real (lt_of_lt_of_le eps_pos (le_add_of_nonneg_left (var_nonneg a _))),
    ← EReal.coe_sub, ← EReal.coe_mul]
  exact max_real _ 0

theorem unitRows_real (z : ℕ → ℕ → ℝ) : unitRows (F := Ideal) (A2 z) = A2 (Cert.Loss.unit z) := by
  funext y
  idx_vars y
  pointwise [unitRows]
  simp only [A2_apply, word_tiny, ← EReal.coe_mul]
  rw [sum_coe 128 fun k => z y0.val k * z y0.val k, sqrt_real (Finset.sum_nonneg fun _ _ => mul_self_nonneg _), max_real,
    div_real _ (lt_max_of_lt_right tiny_pos).ne']
  rfl

theorem both_real (u v : ℕ → ℕ → ℝ) : Hand.both (F := Ideal) (A2 u) (A2 v) = A2 (Cert.Loss.both u v) := by
  funext y
  idx_vars y
  pointwise [Hand.both]
  rw [A2_apply, Cert.Loss.both]
  split <;> rfl

theorem similarities_real (u v : ℕ → ℕ → ℝ) : similarities (F := Ideal) (A2 u) (A2 v) = A2 (sim (Cert.Loss.both u v)) := by
  funext y
  idx_vars y
  unfold similarities
  rw [both_real]
  pointwise
  simp only [A2_apply, ← EReal.coe_mul]
  exact sum_coe 128 fun k => Cert.Loss.both u v y0.val k * Cert.Loss.both u v y1.val k

/-- An entry per pair of row and column numbers, each a word that holds a number in range. -/
theorem gather_pair {α : Type} {N n : ℕ} (d : GatherDims ⟨2, ![N, N]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![N, N]⟩ : Shape).Idx → α) (idx : IVec ⟨2, ![n, 2]⟩ 32) (p : Fin n) (i j : Fin N)
    (hi : (idx (ix2 p 0)).toInt.toNat = i.val) (hj : (idx (ix2 p 1)).toInt.toNat = j.val) :
    Host.gather d x idx (ix1 p) = x (ix2 i j) := by
  have hs : ∀ (a : Fin 2) (hm : a ∈ d.startIndexMap), d.siIdx (ix1 p) ⟨d.startIndexMap.idxOf a, List.idxOf_lt_length_iff.2 hm⟩ = ix2 p a := by
    intro a hm
    funext b
    match b with
    | ⟨0, _⟩ =>
      unfold GatherDims.siIdx
      rw [dif_neg (by rw [hivd]; simp)]
      unfold GatherDims.siCoord
      apply Fin.ext
      simp only [Fin.val_cast]
      have e : ∀ X : Fin 1, ((ix1 p : (⟨1, ![n]⟩ : Shape).Idx) X).val = p.val := fun X => by
        obtain rfl : X = 0 := Subsingleton.elim _ _
        rfl
      exact e _
    | ⟨1, _⟩ =>
      unfold GatherDims.siIdx
      rw [dif_pos (by rw [hivd])]
      apply Fin.ext
      show List.idxOf a d.startIndexMap = a.val
      rw [hsim]
      fin_cases a <;> rfl
  unfold Host.gather
  congr 1
  funext a
  apply Fin.ext
  have hm : a ∈ d.startIndexMap := by rw [hsim]; fin_cases a <;> simp
  have hc : a ∈ d.collapsedSliceDims := by rw [hcoll]; fin_cases a <;> simp
  have hb : a ∉ d.operandBatchingDims := by rw [hob]; exact List.not_mem_nil
  have hk : a ∉ d.sKept := by rw [GatherDims.mem_sKept]; exact fun h => h.1 hc
  simp only [GatherDims.operandIdx, GatherDims.batchCoord_eq_zero _ _ _ hb, GatherDims.offCoord_eq_zero _ _ _ hk,
    Nat.add_zero, GatherDims.start, dif_pos hm, hs a hm, d.slice_collapsed a hc]
  have i1 := i.isLt
  have j1 := j.isLt
  match a with
  | ⟨0, _⟩ => show min (idx (ix2 p 0)).toInt.toNat (N - 1) = i.val; omega
  | ⟨1, _⟩ => show min (idx (ix2 p 1)).toInt.toNat (N - 1) = j.val; omega

/-- A word that holds a small number is not counted from the end. -/
theorem wrap_word {a : ℕ} (h : a < 2 ^ 31) (e : BitVec 32) :
    (Scalar.select (IntOp.cmpi .slt (BitVec.ofNat 32 a) 0#32) e (BitVec.ofNat 32 a)).toInt.toNat = a := by
  have ht : (BitVec.ofNat 32 a).toInt = a := by
    rw [BitVec.toInt_eq_toNat_of_lt (by rw [BitVec.toNat_ofNat]; omega), BitVec.toNat_ofNat]
    omega
  have hc : IntOp.cmpi .slt (BitVec.ofNat 32 a) 0#32 = 0#1 := by
    show BitVec.ofBool ((BitVec.ofNat 32 a).slt 0#32) = 0#1
    have : (BitVec.ofNat 32 a).slt 0#32 = false := by
      rw [BitVec.slt_eq_decide, ht]
      simp
    rw [this]
    rfl
  rw [hc]
  show (BitVec.ofNat 32 a).toInt.toNat = a
  rw [ht]
  rfl

theorem allColumn_word (p : Fin 16384) (q : Fin 1) : (allColumn (ix2 p q)).toInt.toNat = p.val := by
  pointwise [allColumn, allWrapped, allIdx]
  exact wrap_word (by omega) _

theorem halfColumn_word (p : Fin 8192) (q : Fin 1) : (column halfIdx (ix2 p q)).toInt.toNat = p.val := by
  pointwise [column, wrapped, halfIdx]
  exact wrap_word (by omega) _

theorem otherColumn_word (p : Fin 8192) (q : Fin 1) : (column (otherIdx halfIdx) (ix2 p q)).toInt.toNat = p.val + 8192 := by
  pointwise [column, wrapped, halfIdx, otherIdx]
  rw [show IntOp.addi (BitVec.ofNat 32 p.val) 8192#32 = BitVec.ofNat 32 (p.val + 8192) from (BitVec.ofNat_add _ _).symm]
  exact wrap_word (by omega) _

/-- Two columns of words read as the entries of their rows. -/
theorem readAt_real (s : ℕ → ℕ → ℝ) (i j : IVec S8192x1 32) (f g : ℕ → ℕ) (hf : ∀ p < 8192, f p < 16384) (hg : ∀ p < 8192, g p < 16384)
    (hi : ∀ (p : Fin 8192) (q : Fin 1), (i (ix2 p q)).toInt.toNat = f p.val)
    (hj : ∀ (p : Fin 8192) (q : Fin 1), (j (ix2 p q)).toInt.toNat = g p.val) :
    readAt (F := Ideal) (A2 s) i j = A1 fun p => s (f p) (g p) := by
  funext y
  idx_vars y
  unfold readAt
  rw [gather_pair gather_S16384x16384_S8192x2_S8192_n_01_n_n_01_1_11 rfl rfl rfl rfl _ _ y0 ⟨f y0.val, hf _ y0.isLt⟩ ⟨g y0.val, hg _ y0.isLt⟩]
  · rfl
  · pointwise
    exact hi _ _
  · pointwise
    exact hj _ _

theorem partners_real (u : ℕ → ℕ → ℝ) : partners (F := Ideal) (A2 (sim u)) = A1 fun i => sim u i (mate i) := by
  funext y
  idx_vars y
  unfold partners
  rw [readAt_real _ _ _ (fun p => p) (fun p => p + 8192) (fun _ _ => by omega) (fun _ _ => by omega) halfColumn_word otherColumn_word,
    readAt_real _ _ _ (fun p => p + 8192) (fun p => p) (fun _ _ => by omega) (fun _ _ => by omega) otherColumn_word halfColumn_word]
  pointwise [stacked]
  simp only [A1_apply, mate]
  split
  · rfl
  · rw [show y0.val - 8192 + 8192 = y0.val by omega]

theorem maskedSums_real (u : ℕ → ℕ → ℝ) : maskedSums (F := Ideal) (A2 (sim u)) = A1 (den u) := by
  funext y
  idx_vars y
  pointwise [maskedSums, lessEntries, rowSums]
  rw [gather_pair gather_S16384x16384_S16384x2_S16384_n_01_n_n_01_1_11 rfl rfl rfl rfl _ _ y0 y0 y0]
  · simp only [A2_apply]
    rw [sum_coe 16384 fun k => sim u y0.val k, ← EReal.coe_sub]
    rfl
  · pointwise
    exact allColumn_word _ _
  · pointwise
    exact allColumn_word _ _

/-- The logarithm of a positive number over a number that is not negative. -/
theorem log_div {e d : ℝ} (hd : 0 ≤ d) :
    -Ideal.log (Ideal.div ((Real.exp e : ℝ) : EReal) (d : EReal)) = ((-e : ℝ) : EReal) + Ideal.log (d : EReal) := by
  rcases hd.eq_or_lt with h | h
  · subst h
    have : Ideal.div ((Real.exp e : ℝ) : EReal) ((0 : ℝ) : EReal) = ⊤ := by
      unfold Ideal.div
      rw [if_pos EReal.coe_zero, if_pos (EReal.coe_pos.mpr (Real.exp_pos e))]
    rw [this, Ideal.log_top, Ideal.log_coe, if_pos le_rfl, EReal.add_bot, EReal.neg_top]
  · have hp : 0 < Real.exp e / d := div_pos (Real.exp_pos e) h
    rw [div_real _ h.ne', Ideal.log_coe, Ideal.log_coe, if_neg hp.not_ge, if_neg h.not_ge, Real.log_div (Real.exp_pos e).ne' h.ne',
      Real.log_exp, ← EReal.coe_neg, ← EReal.coe_add]
    congr 1
    ring

theorem lossOf_real (u : ℕ → ℕ → ℝ) (h : ∀ i < 16384, 0 ≤ den u i) (y : S_.Idx) :
    lossOf (F := Ideal) (A2 (sim u)) y = Cert.Loss.loss u := by
  unfold lossOf
  rw [partners_real, maskedSums_real]
  pointwise [meanLoss, overTemp]
  simp only [A1_apply, word_temp, word_16384, div_real _ temp_pos.ne', Ideal.exp_coe]
  have e : ∀ i : Fin 16384, -Ideal.log (Ideal.div ((Real.exp (sim u i.val (mate i.val) / temp) : ℝ) : EReal) ((den u i.val / temp : ℝ) : EReal))
      = rowLoss u i.val := fun i => log_div (div_nonneg (h i.val i.isLt) temp_pos.le)
  simp only [e]
  rw [← Finset.sum_range (fun i => rowLoss u i), Ideal.div_coe (by norm_num)]
  rfl

/-- The reference's result on arrays of real numbers. -/
theorem reference_real (x1 x2 w1 : ℕ → ℕ → ℝ) (b1 g1 be1 : ℕ → ℝ) (w2 : ℕ → ℕ → ℝ) (b2 g2 be2 : ℕ → ℝ) (w3 : ℕ → ℕ → ℝ) (b3 : ℕ → ℝ) :
    allSims (F := Ideal) (A2 x1) (A2 x2) (A2 w1) (A1 b1) (A1 g1) (A1 be1) (A2 w2) (A1 b2) (A1 g2) (A1 be2) (A2 w3) (A1 b3)
      = A2 (sim (Cert.Loss.both (row x1 w1 b1 g1 be1 w2 b2 g2 be2 w3 b3) (row x2 w1 b1 g1 be1 w2 b2 g2 be2 w3 b3))) := by
  simp only [allSims, project, dense1_real, dense2_real, dense3_real, normed_real, unitRows_real, similarities_real, row]

end Cert.ReferenceIdeal.Hand

end
-- ==== Proof.KernelReal.lean ====
/-
  What the kernel computes from blocks of real numbers.
-/
module

public import proofs.«01_k».proof.Proof.State
public import proofs.«01_k».proof.Proof.Spec

@[expose] public section

set_option maxRecDepth 16384

noncomputable section

namespace Cert.KernelIdeal.Hand

open Idealize.ShloMosaic Cert.KernelIdeal Cert.KernelIdeal.Gen Cert.Loss

/-- Block `j` of the rows of `f`. -/
def blk (f : ℕ → ℕ → ℝ) (j : ℕ) : ℕ → ℕ → ℝ := fun r c => f (2048 * j + r) c

/-- The columns' sums and their squares' sums over the first `n` rows. -/
def stat (a : ℕ → ℕ → ℝ) (n p c : ℕ) : ℝ := if p = 0 then ∑ i ∈ Finset.range n, a i c else ∑ i ∈ Finset.range n, a i c * a i c

/-- A block of rows with a leading axis. -/
def A3 (f : ℕ → ℕ → ℝ) : Vec Ideal S1x2048x256 .f32 := fun y => ((f (y 1).val (y 2).val : ℝ) : EReal)

theorem A3_apply (f : ℕ → ℕ → ℝ) (o : Fin 1) (a : Fin 2048) (b : Fin 256) : A3 f (ix3 o a b) = ((f a.val b.val : ℝ) : EReal) := rfl

/-- A block of rows with two leading axes. -/
def A4 (f : ℕ → ℕ → ℝ) : Vec Ideal S1x1x2048x128 .f32 := fun y => ((f (y 2).val (y 3).val : ℝ) : EReal)

theorem A4_apply (f : ℕ → ℕ → ℝ) (o o' : Fin 1) (a : Fin 2048) (b : Fin 128) : A4 f (ix4 o o' a b) = ((f a.val b.val : ℝ) : EReal) := rfl

theorem stat_zero (a : ℕ → ℕ → ℝ) (n c : ℕ) : stat a n (0 : Fin 2).val c = ∑ i ∈ Finset.range n, a i c := rfl

theorem stat_one (a : ℕ → ℕ → ℝ) (n c : ℕ) : stat a n (1 : Fin 2).val c = ∑ i ∈ Finset.range n, a i c * a i c := rfl

theorem tsq_real : tsq (F := Ideal) = ((tiny * tiny : ℝ) : EReal) := by
  have h : tsq (F := Ideal) = ((5316911940649 / 5316911983139663491615228241121378304 : ℝ) : EReal) :=
    IdealRules.named_const.ideal_named_scalar _ _ _ _ rfl
  rw [h]
  congr 1
  norm_num [tiny]

theorem inv_temp_real : Named.named (F := Ideal) (φ := .f32) κ "inv_temp" 0x41649249#32 = ((1 / temp : ℝ) : EReal) := by
  have h : Named.named (F := Ideal) (φ := .f32) κ "inv_temp" 0x41649249#32 = ((134217728 / 9395241 : ℝ) : EReal) :=
    IdealRules.named_const.ideal_named_scalar _ _ _ _ rfl
  rw [h]
  congr 1
  norm_num [temp]

theorem two_inv_temp_real : Named.named (F := Ideal) (φ := .f32) κ "two_inv_temp" 0x41E49249#32 = ((2 / temp : ℝ) : EReal) := by
  have h : Named.named (F := Ideal) (φ := .f32) κ "two_inv_temp" 0x41E49249#32 = ((268435456 / 9395241 : ℝ) : EReal) :=
    IdealRules.named_const.ideal_named_scalar _ _ _ _ rfl
  rw [h]
  congr 1
  norm_num [temp]

theorem norm_real (a : ℕ → ℕ → ℝ) (g be : ℕ → ℝ) (i c : ℕ) :
    max ((a i c * ((Real.sqrt (var a c + eps))⁻¹ * g c)
        + (be c - (∑ i ∈ Finset.range 8192, a i c) * (1 / 8192) * ((Real.sqrt (var a c + eps))⁻¹ * g c)) : ℝ) : EReal) 0
      = ((norm a g be i c : ℝ) : EReal) := by
  rw [← EReal.coe_zero, max_real]
  exact congrArg _ (norm_eq a g be i c)

/-- The first layer's linear part on a block. -/
theorem pay1_real (x w : ℕ → ℕ → ℝ) (b : ℕ → ℝ) (j : ℕ) :
    k0_pay1 (F := Ideal) (M (blk x j)) (MW w) (R b) = M (blk (lin 512 x w b) j) := by
  funext y
  idx_vars y
  pointwise [k0_pay1]
  simp only [A2_apply, ← EReal.coe_mul]
  rw [sum_coe 512 fun k => blk x j y0.val k * w k y1.val, ← EReal.coe_add]
  rfl

/-- A block cut in two and put together again. -/
theorem cols_real (f : ℕ → ℕ → ℝ) :
    cols (shapeCast S1x2048x128 (extractStridedSlice S2048x128 ![0, 0] (M f : FVec Ideal S2048x256 .f32) slices_S2048x256_o0_0_S2048x128) shapeCasts_S2048x128_S1x2048x128)
      (shapeCast S1x2048x128 (extractStridedSlice S2048x128 ![0, 128] (M f : FVec Ideal S2048x256 .f32) slices_S2048x256_o0_128_S2048x128) shapeCasts_S2048x128_S1x2048x128)
      = A3 f := by
  funext y
  idx_vars y
  unfold cols
  simp only [← ix3_eq_valueIdx]
  pointwise
  split
  · rfl
  · show ((f y1.val (128 + (y2.val - 128)) : ℝ) : EReal) = ((f y1.val y2.val : ℝ) : EReal)
    rw [show 128 + (y2.val - 128) = y2.val by omega]

/-- The column sums of a block. -/
theorem pay15_real (f : ℕ → ℕ → ℝ) : k0_pay15 (F := Ideal) (M f) = M (stat f 2048) := by
  funext y
  idx_vars y
  pointwise [k0_pay15]
  simp only [A2_apply, ← EReal.coe_mul]
  rw [sum_coe 2048 fun k => f k y1.val, sum_coe 2048 fun k => f k y1.val * f k y1.val]
  unfold stat
  split
  · rw [if_pos (by omega)]
  · rw [if_neg (by omega)]

theorem pay4_real (x w : ℕ → ℕ → ℝ) (b : ℕ → ℝ) (j : ℕ) :
    k0_pay4 (F := Ideal) (M (blk x j)) (MW w) (R b) = M (stat (blk (lin 512 x w b) j) 2048) := by
  rw [← pay15_real, ← pay1_real]
  rfl

/-- The second layer on a block. -/
theorem pay24_real (a : ℕ → ℕ → ℝ) (g be : ℕ → ℝ) (w : ℕ → ℕ → ℝ) (b : ℕ → ℝ) (j : ℕ) :
    k0_pay24 (F := Ideal) (A3 (blk a j)) (M (stat a 8192)) (R g) (R be) (MW w) (R b) = M (blk (lin 256 (norm a g be) w b) j) := by
  funext y
  idx_vars y
  pointwise [k0_pay24]
  simp only [A2_apply, A3_apply, word_inv_8192, word_eps, stat_zero, stat_one, ← EReal.coe_mul, ← EReal.coe_sub, ← EReal.coe_add, var_eq,
    rsqrt_real (lt_of_lt_of_le eps_pos (le_add_of_nonneg_left (var_nonneg a _))), blk, norm_real]
  rw [sum_coe 256 fun k => norm a g be (2048 * j + y0.val) k * w k y1.val, ← EReal.coe_add]
  rfl

/-- The third layer on a block. -/
theorem pay26_real (a : ℕ → ℕ → ℝ) (g be : ℕ → ℝ) (w : ℕ → ℕ → ℝ) (b : ℕ → ℝ) (j : ℕ) :
    k0_pay26 (F := Ideal) (A3 (blk a j)) (M (stat a 8192)) (R g) (R be) (MW w) (R b) = M (blk (lin 256 (norm a g be) w b) j) := by
  funext y
  idx_vars y
  pointwise [k0_pay26]
  simp only [A2_apply, A3_apply, word_inv_8192, word_eps, stat_zero, stat_one, ← EReal.coe_mul, ← EReal.coe_sub, ← EReal.coe_add, var_eq,
    rsqrt_real (lt_of_lt_of_le eps_pos (le_add_of_nonneg_left (var_nonneg a _))), blk, norm_real]
  rw [sum_coe 256 fun k => norm a g be (2048 * j + y0.val) k * w k y1.val, ← EReal.coe_add]
  rfl

/-- The squared norms of a block's rows. -/
theorem pay27_real (a : ℕ → ℕ → ℝ) (g be : ℕ → ℝ) (w : ℕ → ℕ → ℝ) (b : ℕ → ℝ) (j : ℕ) :
    k0_pay27 (F := Ideal) (A3 (blk a j)) (M (stat a 8192)) (R g) (R be) (MW w) (R b)
      = M fun r _ => sq (blk (lin 256 (norm a g be) w b) j) r := by
  funext y
  idx_vars y
  unfold k0_pay27
  rw [pay26_real]
  pointwise
  simp only [A2_apply, ← EReal.coe_mul]
  exact sum_coe 128 fun k => blk (lin 256 (norm a g be) w b) j y0.val k * blk (lin 256 (norm a g be) w b) j y0.val k

/-- The unit rows of a block. -/
theorem pay18_real (z : ℕ → ℕ → ℝ) : k0_pay18 (F := Ideal) (M z) (M fun r _ => sq z r) tsq = M (unit z) := by
  funext y
  idx_vars y
  pointwise [k0_pay18]
  simp only [A2_apply, tsq_real]
  rw [max_real, rsqrt_real (lt_max_of_lt_right (mul_pos tiny_pos tiny_pos)), ← EReal.coe_mul, unit_eq]

theorem pay19_real (z : ℕ → ℕ → ℝ) : k0_pay19 (F := Ideal) (M z) (M fun r _ => sq z r) tsq = A4 (unit z) := by
  funext y
  idx_vars y
  unfold k0_pay19
  rw [pay18_real]
  pointwise
  rfl

theorem pay20_real (z : ℕ → ℕ → ℝ) :
    k0_pay20 (F := Ideal) (M z) (M fun r _ => sq z r) tsq = R fun c => ∑ r ∈ Finset.range 2048, unit z r c := by
  funext y
  idx_vars y
  unfold k0_pay20
  rw [pay18_real]
  pointwise
  simp only [A2_apply]
  exact sum_coe 2048 fun k => unit z k y1.val

theorem pair_real (u : ℕ → ℕ → ℝ) (t : ℕ → ℝ) (ht : ∀ c, t c = ∑ i ∈ Finset.range 16384, u i c) (i : ℕ) (hi : i < 8192) :
    (∑ k : Fin 128, ((u i k.val * u (i + 8192) k.val : ℝ) : EReal)) * ((2 / temp : ℝ) : EReal)
        - Ideal.log ((∑ k : Fin 128, ((u i k.val * (t k.val - u i k.val) : ℝ) : EReal)) * ((1 / temp : ℝ) : EReal))
        - Ideal.log ((∑ k : Fin 128, ((u (i + 8192) k.val * (t k.val - u (i + 8192) k.val) : ℝ) : EReal)) * ((1 / temp : ℝ) : EReal))
      = -(rowLoss u i + rowLoss u (i + 8192)) := by
  have hd : ∀ i, ∑ k ∈ Finset.range 128, u i k * (t k - u i k) = den u i := fun i => by
    simp only [ht]
    exact den_eq u i
  rw [sum_coe 128 fun k => u i k * u (i + 8192) k, sum_coe 128 fun k => u i k * (t k - u i k),
    sum_coe 128 fun k => u (i + 8192) k * (t k - u (i + 8192) k), hd, hd, ← EReal.coe_mul, ← EReal.coe_mul, ← EReal.coe_mul,
    mul_one_div, mul_one_div]
  exact pair_eq u hi

/-- A column of 2048 numbers added up, scaled, and repeated along a row. -/
def shared (v : FVec Ideal S2048x1 .f32) : FVec Ideal S1x128 .f32 :=
  broadcastTo S1x128 (shapeCast S1x1 (mulf (shapeCast S1x1 (multiReduction .add [0] S1 v 0x00000000#32 reduces_S2048x1_S1 (.inl rfl) rfl) shapeCasts_S1_S1x1)
    (broadcast S1x1 (Scalar.ofBits .f32 0xB8800000#32))) shapeCasts_S1x1_S1x1) broadcasts_S1x1_S1x128

theorem shared_apply (v : FVec Ideal S2048x1 .f32) (y : S1x128.Idx) :
    shared v y = (∑ r : Fin 2048, v (ix2 r 0)) * ((-(1 / 16384) : ℝ) : EReal) := by
  idx_vars y
  pointwise [shared]
  simp only [word_share]

/-- A row's dot product with another. -/
def dots (u v : FVec Ideal S2048x128 .f32) : FVec Ideal S2048x1 .f32 :=
  shapeCast S2048x1 (multiReduction .add [1] S2048 (mulf u v) 0x00000000#32 reduces_S2048x128_S2048 (.inl rfl) rfl) shapeCasts_S2048_S2048x1

theorem dots_apply (u v : FVec Ideal S2048x128 .f32) (r : Fin 2048) :
    dots u v (ix2 r 0) = ∑ k : Fin 128, u (ix2 r k) * v (ix2 r k) := by
  pointwise [dots]

/-- The pairs' losses, negated, as a column. -/
def pairs (u v : FVec Ideal S2048x128 .f32) (t : FVec Ideal S1x128 .f32) : FVec Ideal S2048x1 .f32 :=
  subf (subf (mulf (dots u v) (broadcast S2048x1 (Named.named κ "two_inv_temp" 0x41E49249#32)))
    (log (mulf (dots u (subf (broadcastTo S2048x128 t broadcasts_S1x128_S2048x128) u)) (broadcast S2048x1 (Named.named κ "inv_temp" 0x41649249#32)))))
    (log (mulf (dots v (subf (broadcastTo S2048x128 t broadcasts_S1x128_S2048x128) v)) (broadcast S2048x1 (Named.named κ "inv_temp" 0x41649249#32))))

theorem pairs_apply (u v : ℕ → ℕ → ℝ) (t : ℕ → ℝ) (r : Fin 2048) :
    pairs (M u) (M v) (R t) (ix2 r 0) =
      (∑ k : Fin 128, ((u r.val k.val * v r.val k.val : ℝ) : EReal)) * ((2 / temp : ℝ) : EReal)
        - Ideal.log ((∑ k : Fin 128, ((u r.val k.val * (t k.val - u r.val k.val) : ℝ) : EReal)) * ((1 / temp : ℝ) : EReal))
        - Ideal.log ((∑ k : Fin 128, ((v r.val k.val * (t k.val - v r.val k.val) : ℝ) : EReal)) * ((1 / temp : ℝ) : EReal)) := by
  pointwise [pairs]
  simp only [dots_apply]
  pointwise
  simp only [A2_apply, ← EReal.coe_mul, ← EReal.coe_sub, inv_temp_real, two_inv_temp_real]

theorem pay28_split (u v : Vec Ideal S1x1x2048x128 .f32) (t : Vec Ideal S1x128 .f32) :
    k0_pay28 (F := Ideal) u v t
      = shared (pairs (shapeCast S2048x128 u shapeCasts_S1x1x2048x128_S2048x128) (shapeCast S2048x128 v shapeCasts_S1x1x2048x128_S2048x128) t) := rfl

theorem flat_real (u : ℕ → ℕ → ℝ) : shapeCast S2048x128 (A4 u) shapeCasts_S1x1x2048x128_S2048x128 = M u := by
  funext y
  idx_vars y
  pointwise
  rfl

/-- The loss of the pairs from `n` to `n + 2048`. -/
theorem share_eq (u : ℕ → ℕ → ℝ) (n : ℕ) :
    (∑ r ∈ Finset.range 2048, -(rowLoss u (n + r) + rowLoss u (n + r + 8192))) * ((-(1 / 16384) : ℝ) : EReal)
      = (∑ r ∈ Finset.range 2048, (rowLoss u (n + r) + rowLoss u (n + r + 8192))) * ((1 / 16384 : ℝ) : EReal) := by
  rw [(sum_neg_ne_top (fun r => rowLoss u (n + r) + rowLoss u (n + r + 8192)) 2048
    fun r => EReal.add_ne_top (rowLoss_ne_top u _) (rowLoss_ne_top u _)).1, EReal.coe_neg, EReal.neg_mul, mul_comm, EReal.neg_mul, neg_neg, mul_comm]

/-- The loss of a block of pairs, when `u` holds the unit rows of both halves and `t` their sum. -/
theorem pay28_real (u : ℕ → ℕ → ℝ) (t : ℕ → ℝ) (ht : ∀ c, t c = ∑ i ∈ Finset.range 16384, u i c) (j : ℕ) (hj : j < 4) (y : S1x128.Idx) :
    k0_pay28 (F := Ideal) (A4 (blk u j)) (A4 (blk u (j + 4))) (R t) y
      = (∑ r ∈ Finset.range 2048, (rowLoss u (2048 * j + r) + rowLoss u (2048 * j + r + 8192))) * ((1 / 16384 : ℝ) : EReal) := by
  rw [pay28_split, flat_real, flat_real, shared_apply, ← share_eq, Finset.sum_range]
  refine congrArg (· * ((-(1 / 16384) : ℝ) : EReal)) (Finset.sum_congr rfl fun r _ => ?_)
  have hr : r.val < 2048 := r.isLt
  rw [pairs_apply, ← pair_real u t ht (2048 * j + r.val) (by omega)]
  unfold blk
  rw [show 2048 * (j + 4) + r.val = 2048 * j + r.val + 8192 by omega]

/-! ## The blocks put together -/

/-- `D` holds the blocks of real arrays: the halves' rows `x 0`, `x 1` and the layers' parameters. -/
structure Reads (D : Operands Ideal) (x : ℕ → ℕ → ℕ → ℝ) (w1 : ℕ → ℕ → ℝ) (b1 g1 be1 : ℕ → ℝ) (w2 : ℕ → ℕ → ℝ) (b2 g2 be2 : ℕ → ℝ)
    (w3 : ℕ → ℕ → ℝ) (b3 : ℕ → ℝ) : Prop where
  x : ∀ h j, h < 2 → j < 4 → D.x h j = M (blk (x h) j)
  w1 : D.w1 = MW w1
  b1 : D.b1 = R b1
  g1 : D.g1 = R g1
  be1 : D.be1 = R be1
  w2 : D.w2 = MW w2
  b2 : D.b2 = R b2
  g2 : D.g2 = R g2
  be2 : D.be2 = R be2
  w3 : D.w3 = MW w3
  b3 : D.b3 = R b3

/-- A block's column sums added to those of the blocks before. -/
theorem stat_step (a : ℕ → ℕ → ℝ) (j : ℕ) :
    addf (M (stat a (2048 * (j + 1))) : FVec Ideal S2x256 .f32) (M (stat (blk a (j + 1)) 2048)) = M (stat a (2048 * (j + 1 + 1))) := by
  funext y
  idx_vars y
  pointwise
  simp only [A2_apply, ← EReal.coe_add]
  refine congrArg _ ?_
  rw [show 2048 * (j + 1 + 1) = 2048 * (j + 1) + 2048 by omega]
  unfold stat blk
  split <;> rw [Finset.sum_range_add]

theorem stat_first (a : ℕ → ℕ → ℝ) : stat (blk a 0) 2048 = stat a (2048 * (0 + 1)) := by
  have h : blk a 0 = a := by unfold blk; simp only [Nat.mul_zero, Nat.zero_add]
  rw [h]

/-- The rows of the first half come first. -/
theorem both_low (u v : ℕ → ℕ → ℝ) {j : ℕ} (hj : j < 4) : A4 (blk (both u v) j) = A4 (blk u j) := by
  funext y
  have hr : (y 2).val < 2048 := (y 2).isLt
  unfold A4 blk both
  rw [if_pos (by omega)]

/-- The rows of the second half follow. -/
theorem both_high (u v : ℕ → ℕ → ℝ) (j : ℕ) : blk (both u v) (j + 4) = blk v j := by
  funext r c
  unfold blk both
  rw [if_neg (by omega), show 2048 * (j + 4) + r - 8192 = 2048 * j + r by omega]

/-- Block `n` of both halves' rows is block `n % 4` of half `n / 4`. -/
theorem both_block (f : ℕ → ℕ → ℕ → ℝ) {n : ℕ} (hn : n < 8) (c : ℕ) :
    ∑ r ∈ Finset.range 2048, blk (f (n / 4)) (n % 4) r c = ∑ r ∈ Finset.range 2048, both (f 0) (f 1) (2048 * n + r) c := by
  refine Finset.sum_congr rfl fun r hr => ?_
  have hr : r < 2048 := Finset.mem_range.mp hr
  unfold blk both
  by_cases h : n < 4
  · rw [if_pos (by omega), show n / 4 = 0 by omega, show n % 4 = n by omega]
  · rw [if_neg (by omega), show n / 4 = 1 by omega, show 2048 * (n % 4) + r = 2048 * n + r - 8192 by omega]

theorem sum_step (u : ℕ → ℕ → ℝ) (n : ℕ) :
    addf (R fun c => ∑ i ∈ Finset.range (2048 * (n + 1)), u i c : FVec Ideal S1x128 .f32)
        (R fun c => ∑ r ∈ Finset.range 2048, u (2048 * (n + 1) + r) c)
      = R fun c => ∑ i ∈ Finset.range (2048 * (n + 1 + 1)), u i c := by
  funext y
  idx_vars y
  pointwise
  simp only [A2_apply, ← EReal.coe_add]
  refine congrArg _ ?_
  rw [show 2048 * (n + 1 + 1) = 2048 * (n + 1) + 2048 by omega, Finset.sum_range_add]

/-- The shares of the blocks up to `j`, added up. -/
theorem share_step (u : ℕ → ℕ → ℝ) (j : ℕ) :
    (∑ i ∈ Finset.range (2048 * (j + 1)), (rowLoss u i + rowLoss u (i + 8192))) * ((1 / 16384 : ℝ) : EReal)
        + (∑ r ∈ Finset.range 2048, (rowLoss u (2048 * (j + 1) + r) + rowLoss u (2048 * (j + 1) + r + 8192))) * ((1 / 16384 : ℝ) : EReal)
      = (∑ i ∈ Finset.range (2048 * (j + 1 + 1)), (rowLoss u i + rowLoss u (i + 8192))) * ((1 / 16384 : ℝ) : EReal) := by
  rw [show 2048 * (j + 1 + 1) = 2048 * (j + 1) + 2048 by omega, Finset.sum_range_add,
    EReal.right_distrib_of_nonneg_of_ne_top (by exact_mod_cast (by norm_num : (0 : ℝ) ≤ 1 / 16384)) (EReal.coe_ne_top _)]

/-- The pairs' losses, added up and scaled, are the loss. -/
theorem pairs_loss (u : ℕ → ℕ → ℝ) :
    (∑ i ∈ Finset.range (2048 * (3 + 1)), (rowLoss u i + rowLoss u (i + 8192))) * ((1 / 16384 : ℝ) : EReal) = Cert.Loss.loss u := by
  rw [Finset.sum_add_distrib, Cert.Loss.loss, show (16384 : ℕ) = 2048 * (3 + 1) + 8192 from rfl, Finset.sum_range_add]
  simp only [Nat.add_comm _ 8192, Nat.reduceMul, Nat.reduceAdd]

section
variable {D : Operands Ideal} {x : ℕ → ℕ → ℕ → ℝ} {w1 : ℕ → ℕ → ℝ} {b1 g1 be1 : ℕ → ℝ} {w2 : ℕ → ℕ → ℝ} {b2 g2 be2 : ℕ → ℝ}
  {w3 : ℕ → ℕ → ℝ} {b3 : ℕ → ℝ} (H : Reads D x w1 b1 g1 be1 w2 b2 g2 be2 w3 b3)
include H

theorem a1_real {h j : ℕ} (hh : h < 2) (hj : j < 4) : D.a1 h j = A3 (blk (lin 512 (x h) w1 b1) j) := by
  unfold Operands.a1 k0_pay2 k0_pay3
  rw [H.x h j hh hj, H.w1, H.b1, pay1_real]
  exact cols_real _

theorem st1_real {h : ℕ} (hh : h < 2) : ∀ j, j < 4 → D.st1 h j = M (stat (lin 512 (x h) w1 b1) (2048 * (j + 1)))
  | 0, hj => by
    unfold Operands.st1 k0_pay5
    rw [H.x h 0 hh hj, H.w1, H.b1, pay4_real, stat_first]
    funext y
    idx_vars y
    pointwise
  | j + 1, hj => by
    unfold Operands.st1 k0_pay6
    rw [st1_real hh j (by omega), H.x h (j + 1) hh hj, H.w1, H.b1, pay4_real, stat_step]
    funext y
    idx_vars y
    pointwise

theorem y2_real {h j : ℕ} (hh : h < 2) (hj : j < 4) :
    D.y2 h j = M (blk (lin 256 (norm (lin 512 (x h) w1 b1) g1 be1) w2 b2) j) := by
  unfold Operands.y2
  rw [a1_real H hh hj, st1_real H hh 3 (by omega), H.g1, H.be1, H.w2, H.b2]
  exact pay24_real _ _ _ _ _ _

theorem a2_real {h j : ℕ} (hh : h < 2) (hj : j < 4) :
    D.a2 h j = A3 (blk (lin 256 (norm (lin 512 (x h) w1 b1) g1 be1) w2 b2) j) := by
  have e : D.a2 h j = cols (k0_pay13 (extractStridedSlice S2048x128 ![0, 0] (D.y2 h j) slices_S2048x256_o0_0_S2048x128)) (k0_pay14 (D.y2 h j)) := rfl
  rw [e, y2_real H hh hj]
  exact cols_real _

theorem st2_real {h : ℕ} (hh : h < 2) : ∀ j, j < 4 →
    D.st2 h j = M (stat (lin 256 (norm (lin 512 (x h) w1 b1) g1 be1) w2 b2) (2048 * (j + 1)))
  | 0, hj => by
    unfold Operands.st2 k0_pay16
    rw [y2_real H hh hj, pay15_real, stat_first]
    funext y
    idx_vars y
    pointwise
  | j + 1, hj => by
    unfold Operands.st2 k0_pay17
    rw [st2_real hh j (by omega), y2_real H hh hj, pay15_real, stat_step]
    funext y
    idx_vars y
    pointwise

/-- A half's rows after the third layer. -/
theorem y3_real {h j : ℕ} (hh : h < 2) (hj : j < 4) : D.y3 h j
    = M (blk (lin 256 (norm (lin 256 (norm (lin 512 (x h) w1 b1) g1 be1) w2 b2) g2 be2) w3 b3) j) := by
  unfold Operands.y3
  rw [a2_real H hh hj, st2_real H hh 3 (by omega), H.g2, H.be2, H.w3, H.b3]
  exact pay26_real _ _ _ _ _ _

theorem n3_real {h j : ℕ} (hh : h < 2) (hj : j < 4) : D.n3 h j
    = M fun r _ => sq (blk (lin 256 (norm (lin 256 (norm (lin 512 (x h) w1 b1) g1 be1) w2 b2) g2 be2) w3 b3) j) r := by
  unfold Operands.n3
  rw [a2_real H hh hj, st2_real H hh 3 (by omega), H.g2, H.be2, H.w3, H.b3]
  exact pay27_real _ _ _ _ _ _

theorem zb_real {h j : ℕ} (hh : h < 2) (hj : j < 4) : D.zb h j = A4 (blk (row (x h) w1 b1 g1 be1 w2 b2 g2 be2 w3 b3) j) := by
  unfold Operands.zb
  rw [y3_real H hh hj, n3_real H hh hj]
  exact pay19_real _

theorem pay20_block {n : ℕ} (hn : n < 8) :
    k0_pay20 (D.y3 (n / 4) (n % 4)) (D.n3 (n / 4) (n % 4)) tsq
      = R fun c => ∑ r ∈ Finset.range 2048,
          both (row (x 0) w1 b1 g1 be1 w2 b2 g2 be2 w3 b3) (row (x 1) w1 b1 g1 be1 w2 b2 g2 be2 w3 b3) (2048 * n + r) c := by
  rw [y3_real H (by omega) (by omega), n3_real H (by omega) (by omega), pay20_real]
  exact congrArg (fun f : ℕ → ℝ => (R f : FVec Ideal S1x128 .f32))
    (funext fun c => both_block (fun h => row (x h) w1 b1 g1 be1 w2 b2 g2 be2 w3 b3) hn c)

theorem s_real : ∀ n, n < 8 → D.s n = R fun c => ∑ i ∈ Finset.range (2048 * (n + 1)),
    both (row (x 0) w1 b1 g1 be1 w2 b2 g2 be2 w3 b3) (row (x 1) w1 b1 g1 be1 w2 b2 g2 be2 w3 b3) i c
  | 0, hn => by
    have h := pay20_block H hn
    simp only [Nat.zero_div, Nat.zero_mod, Nat.mul_zero, Nat.zero_add] at h
    unfold Operands.s k0_pay21
    rw [h, Nat.zero_add, Nat.mul_one]
    funext y
    idx_vars y
    pointwise
  | n + 1, hn => by
    unfold Operands.s k0_pay22
    rw [s_real n (by omega), pay20_block H hn, sum_step]
    funext y
    idx_vars y
    pointwise

theorem l_real {j : ℕ} (hj : j < 4) (y : S1x128.Idx) (u : ℕ → ℕ → ℝ)
    (hu : u = both (row (x 0) w1 b1 g1 be1 w2 b2 g2 be2 w3 b3) (row (x 1) w1 b1 g1 be1 w2 b2 g2 be2 w3 b3)) :
    D.l j y = (∑ r ∈ Finset.range 2048, (rowLoss u (2048 * j + r) + rowLoss u (2048 * j + r + 8192))) * ((1 / 16384 : ℝ) : EReal) := by
  unfold Operands.l
  rw [zb_real H (by omega) hj, zb_real H (by omega) hj, s_real H 7 (by omega), ← hu,
    ← both_low (row (x 0) w1 b1 g1 be1 w2 b2 g2 be2 w3 b3) (row (x 1) w1 b1 g1 be1 w2 b2 g2 be2 w3 b3) hj,
    ← both_high (row (x 0) w1 b1 g1 be1 w2 b2 g2 be2 w3 b3) (row (x 1) w1 b1 g1 be1 w2 b2 g2 be2 w3 b3) j, ← hu]
  exact pay28_real u _ (fun c => rfl) j hj y

theorem out_partial (y : S1x128.Idx) (u : ℕ → ℕ → ℝ)
    (hu : u = both (row (x 0) w1 b1 g1 be1 w2 b2 g2 be2 w3 b3) (row (x 1) w1 b1 g1 be1 w2 b2 g2 be2 w3 b3)) :
    ∀ j, j < 4 → D.out j y = (∑ i ∈ Finset.range (2048 * (j + 1)), (rowLoss u i + rowLoss u (i + 8192))) * ((1 / 16384 : ℝ) : EReal)
  | 0, hj => by
    unfold Operands.out
    rw [l_real H hj y u hu]
    simp only [Nat.mul_zero, Nat.zero_add, Nat.mul_one]
  | j + 1, hj => by
    have e : D.out (j + 1) y = D.out j y + D.l (j + 1) y := by
      rw [show D.out (j + 1) = k0_pay23 (D.l (j + 1)) (D.out j) from rfl]
      idx_vars y
      pointwise [k0_pay23]
    rw [e, out_partial y u hu j (by omega), l_real H hj y u hu, share_step]

/-- What the kernel leaves in every lane of its output: the loss of the two halves' unit rows. -/
theorem out_real (y : S1x128.Idx) : D.out 3 y
    = Cert.Loss.loss (both (row (x 0) w1 b1 g1 be1 w2 b2 g2 be2 w3 b3) (row (x 1) w1 b1 g1 be1 w2 b2 g2 be2 w3 b3)) := by
  rw [out_partial H y _ rfl 3 (by omega), pairs_loss]

end

end Cert.KernelIdeal.Hand

end
-- ==== Proof.KernelValue.lean ====
/-
  What a run of the kernel ends with: its result as the loss of the two halves' unit rows.
-/
module

public import proofs.«01_k».proof.Proof.Body
public import proofs.«01_k».proof.Proof.KernelReal
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Cert.Loss
open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

variable (m : (ℓ : Loc nD τ sig) → Buf (Elt Ideal) ℓ) (ρ : Dev nD → PrngReg)

/-! ## The operands -/

/-- The kernel's twelve arguments on core `c` are real arrays. -/
structure Args (c : Dev nD) (x0 x1 w1 : ℕ → ℕ → ℝ) (b1 g1 be1 : ℕ → ℝ) (w2 : ℕ → ℕ → ℝ) (b2 g2 be2 : ℕ → ℝ) (w3 : ℕ → ℕ → ℝ) (b3 : ℕ → ℝ) : Prop where
  x0 : m ((c : Thread nD τ).loc main_arg0) = (M x0 : FVec Ideal S8192x512 .f32)
  x1 : m ((c : Thread nD τ).loc main_arg1) = (M x1 : FVec Ideal S8192x512 .f32)
  w1 : m ((c : Thread nD τ).loc main_arg2) = (M w1 : FVec Ideal S512x256 .f32)
  b1 : m ((c : Thread nD τ).loc main_arg3) = (A1 b1 : FVec Ideal S256 .f32)
  g1 : m ((c : Thread nD τ).loc main_arg4) = (A1 g1 : FVec Ideal S256 .f32)
  be1 : m ((c : Thread nD τ).loc main_arg5) = (A1 be1 : FVec Ideal S256 .f32)
  w2 : m ((c : Thread nD τ).loc main_arg6) = (M w2 : FVec Ideal S256x256 .f32)
  b2 : m ((c : Thread nD τ).loc main_arg7) = (A1 b2 : FVec Ideal S256 .f32)
  g2 : m ((c : Thread nD τ).loc main_arg8) = (A1 g2 : FVec Ideal S256 .f32)
  be2 : m ((c : Thread nD τ).loc main_arg9) = (A1 be2 : FVec Ideal S256 .f32)
  w3 : m ((c : Thread nD τ).loc main_arg10) = (M w3 : FVec Ideal S256x128 .f32)
  b3 : m ((c : Thread nD τ).loc main_arg11) = (A1 b3 : FVec Ideal S128 .f32)

/-- A vector of 256 numbers as one row. -/
theorem row256_real (f : ℕ → ℝ) : shapeCast S1x256 (A1 f : FVec Ideal S256 .f32) shapeCasts_S256_S1x256 = R f := by
  funext y
  idx_vars y
  pointwise
  rfl

/-- A vector of 128 numbers as one row. -/
theorem row128_real (f : ℕ → ℝ) : shapeCast S1x128 (A1 f : FVec Ideal S128 .f32) shapeCasts_S128_S1x128 = R f := by
  funext y
  idx_vars y
  pointwise
  rfl

variable {m} in
/-- What the host lines before the launch leave in the parameters' buffers. -/
theorem host_real {c : Dev nD} {x0 x1 w1 : ℕ → ℕ → ℝ} {b1 g1 be1 : ℕ → ℝ} {w2 : ℕ → ℕ → ℝ} {b2 g2 be2 : ℕ → ℝ} {w3 : ℕ → ℕ → ℝ} {b3 : ℕ → ℝ}
    (h : Args m c x0 x1 w1 b1 g1 be1 w2 b2 g2 be2 w3 b3) :
    V m c main_v0 = (MW w1 : FVec Ideal S512x256 .bf16) ∧ V m c main_v1 = (R b1 : FVec Ideal S1x256 .f32)
    ∧ V m c main_v2 = (R g1 : FVec Ideal S1x256 .f32) ∧ V m c main_v3 = (R be1 : FVec Ideal S1x256 .f32)
    ∧ V m c main_v4 = (MW w2 : FVec Ideal S256x256 .bf16) ∧ V m c main_v5 = (R b2 : FVec Ideal S1x256 .f32)
    ∧ V m c main_v6 = (R g2 : FVec Ideal S1x256 .f32) ∧ V m c main_v7 = (R be2 : FVec Ideal S1x256 .f32)
    ∧ V m c main_v8 = (MW w3 : FVec Ideal S256x128 .bf16) ∧ V m c main_v9 = (R b3 : FVec Ideal S1x128 .f32) := by
  unfold V V0
  simp only [hostOps0, List.flatten_cons, List.flatten_nil, List.append_nil]
  refine ⟨?_, ?_, ?_, ?_, ?_, ?_, ?_, ?_, ?_, ?_⟩ <;> after_results_simp
  · rw [h.w1]; rfl
  · rw [h.b1]; exact row256_real b1
  · rw [h.g1]; exact row256_real g1
  · rw [h.be1]; exact row256_real be1
  · rw [h.w2]; rfl
  · rw [h.b2]; exact row256_real b2
  · rw [h.g2]; exact row256_real g2
  · rw [h.be2]; exact row256_real be2
  · rw [h.w3]; rfl
  · rw [h.b3]; exact row128_real b3

theorem idx_whole : ∀ t : Fin cfg0.N, (cfg0.win 2).index t = ![0, 0] ∧ (cfg0.win 3).index t = ![0, 0] ∧ (cfg0.win 4).index t = ![0, 0]
    ∧ (cfg0.win 5).index t = ![0, 0] ∧ (cfg0.win 6).index t = ![0, 0] ∧ (cfg0.win 7).index t = ![0, 0] ∧ (cfg0.win 8).index t = ![0, 0]
    ∧ (cfg0.win 9).index t = ![0, 0] ∧ (cfg0.win 10).index t = ![0, 0] ∧ (cfg0.win 11).index t = ![0, 0] := by decide +kernel
theorem idx_0 : ∀ t : Fin cfg0.N, t.val < 4 → (cfg0.win 0).index t = ![t.val, 0] := by decide +kernel
theorem idx_1 : ∀ t : Fin cfg0.N, 16 ≤ t.val → t.val < 20 → (cfg0.win 1).index t = ![t.val - 16, 0] := by decide +kernel

set_option maxHeartbeats 2000000 in
/-- A parameter's window holds its whole buffer. -/
theorem whole_blocks (c : Dev nD) (t : Fin cfg0.N) :
    iblk m c 2 t = V m c main_v0 ∧ iblk m c 3 t = V m c main_v1 ∧ iblk m c 4 t = V m c main_v2 ∧ iblk m c 5 t = V m c main_v3
    ∧ iblk m c 6 t = V m c main_v4 ∧ iblk m c 7 t = V m c main_v5 ∧ iblk m c 8 t = V m c main_v6 ∧ iblk m c 9 t = V m c main_v7
    ∧ iblk m c 10 t = V m c main_v8 ∧ iblk m c 11 t = V m c main_v9 := by
  obtain ⟨i2, i3, i4, i5, i6, i7, i8, i9, i10, i11⟩ := idx_whole t
  refine ⟨?_, ?_, ?_, ?_, ?_, ?_, ?_, ?_, ?_, ?_⟩ <;> funext y <;> idx_vars y
  · blk_ext [iblk, i2]
  · blk_ext [iblk, i3]
  · blk_ext [iblk, i4]
  · blk_ext [iblk, i5]
  · blk_ext [iblk, i6]
  · blk_ext [iblk, i7]
  · blk_ext [iblk, i8]
  · blk_ext [iblk, i9]
  · blk_ext [iblk, i10]
  · blk_ext [iblk, i11]

/-- Block `j` of the first half. -/
theorem x0_real (c : Dev nD) {f : ℕ → ℕ → ℝ} (h : m ((c : Thread nD τ).loc main_arg0) = (M f : FVec Ideal S8192x512 .f32)) (j : ℕ) (hj : j < 4) :
    (ops m c).x 0 j = M (blk f j) := by
  have e : (ops m c).x 0 j = iblk m c 0 (pt j) := by show iblk m c 0 (pt (16 * 0 + j)) = _; rw [Nat.mul_zero, Nat.zero_add]
  have ht : (pt j).val = j := Nat.mod_eq_of_lt (by omega)
  rw [e]
  funext y
  idx_vars y
  have hi := idx_0 (pt j) (by omega)
  trans V m c main_arg0 (ix2 ⟨2048 * j + y0.val, by omega⟩ y1)
  · blk_ext [iblk, hi]
  · rw [V_main_arg0, h]
    rfl

/-- Block `j` of the second half. -/
theorem x1_real (c : Dev nD) {f : ℕ → ℕ → ℝ} (h : m ((c : Thread nD τ).loc main_arg1) = (M f : FVec Ideal S8192x512 .f32)) (j : ℕ) (hj : j < 4) :
    (ops m c).x 1 j = M (blk f j) := by
  have e : (ops m c).x 1 j = iblk m c 1 (pt (16 + j)) := rfl
  have ht : (pt (16 + j)).val = 16 + j := Nat.mod_eq_of_lt (by omega)
  rw [e]
  funext y
  idx_vars y
  have hi := idx_1 (pt (16 + j)) (by omega) (by omega)
  trans V m c main_arg1 (ix2 ⟨2048 * j + y0.val, by omega⟩ y1)
  · blk_ext [iblk, hi]
  · rw [V_main_arg1, h]
    rfl

variable {m} in
/-- The launch's operands are the arguments' blocks. -/
theorem ops_reads {c : Dev nD} {x0 x1 w1 : ℕ → ℕ → ℝ} {b1 g1 be1 : ℕ → ℝ} {w2 : ℕ → ℕ → ℝ} {b2 g2 be2 : ℕ → ℝ} {w3 : ℕ → ℕ → ℝ} {b3 : ℕ → ℝ}
    (h : Args m c x0 x1 w1 b1 g1 be1 w2 b2 g2 be2 w3 b3) :
    Reads (ops m c) (fun n => if n = 0 then x0 else x1) w1 b1 g1 be1 w2 b2 g2 be2 w3 b3 := by
  obtain ⟨v0, v1, v2, v3, v4, v5, v6, v7, v8, v9⟩ := host_real h
  obtain ⟨i0, i1, i2, i3, i4, i5, i6, i7, i8, i9⟩ := whole_blocks m c (pt 0)
  refine ⟨fun n j hn hj => ?_, i0.trans v0, i1.trans v1, i2.trans v2, i3.trans v3, i4.trans v4, i5.trans v5, i6.trans v6, i7.trans v7,
    i8.trans v8, i9.trans v9⟩
  interval_cases n
  · exact x0_real m c h.x0 j hj
  · exact x1_real m c h.x1 j hj

/-! ## The result -/

/-- The output's array after the launch: what the last point leaves. -/
theorem out_array (c : Dev nD) : (dats m 0 c).arrAt 12 cfg0.N = (ops m c).out 3 := by
  refine (dats m 0 c).arrAt_eq_of_after_last 12 (pt 31) (by decide +kernel) _ fun j => ?_
  rfl

variable {m} in
/-- The kernel's result after the run. -/
theorem final_value {r : PUnit × MemSt nD τ sig (Elt Ideal)}
    (h : Pipeline.FramePost cfgs (dats m) 0 (Pipeline.afterTail₀ cfgs (dats m) 0 (V0 m) [hostOps1]) r) (c : Dev nD) :
    r.2.mem ((c.tc : Thread nD τ).loc main_v12) = fun _ => (ops m c).out 3 (ix2 0 0) := by
  rw [(h c).2 main_v12 (Pipeline.mem_restRefs_of main_v12 (by decide) (by decide))]
  unfold Pipeline.afterTail₀
  simp only [hostOps1, List.flatten_cons, List.flatten_nil, List.append_nil]
  after_results_simp
  have e : Pipeline.withArrays (cfgs 0).spec c (V0 m c) (fun w => (dats m 0 c).arrAt w (cfgs 0).N) (Proc.tc.devRef main_v10)
      = (dats m 0 c).arrAt 12 cfg0.N :=
    Pipeline.withArrays_arr (cfgs 0).spec launch0.win.arr_inj c (V0 m c) (fun w => (dats m 0 c).arrAt w (cfgs 0).N) 12
  rw [e, out_array]
  funext y
  pointwise

variable {m} in
/-- The kernel's run on arrays of real numbers: its result is the loss of the two halves' unit rows, and its arguments are as they were. -/
theorem run_value {x0 x1 w1 : Dev nD → ℕ → ℕ → ℝ} {b1 g1 be1 : Dev nD → ℕ → ℝ} {w2 : Dev nD → ℕ → ℕ → ℝ} {b2 g2 be2 : Dev nD → ℕ → ℝ}
    {w3 : Dev nD → ℕ → ℕ → ℝ} {b3 : Dev nD → ℕ → ℝ}
    (h : ∀ c, Args m c (x0 c) (x1 c) (w1 c) (b1 c) (g1 c) (be1 c) (w2 c) (b2 c) (g2 c) (be2 c) (w3 c) (b3 c)) :
    θ_run defs (onTc (τ := τ) (main (F := Ideal))) ⟨m, fun _ => 0, ρ⟩ (fun r => ∀ c : Dev nD,
      r.2.mem ((c.tc : Thread nD τ).loc main_v12)
        = (fun _ => Cert.Loss.loss (both (row (x0 c) (w1 c) (b1 c) (g1 c) (be1 c) (w2 c) (b2 c) (g2 c) (be2 c) (w3 c) (b3 c))
          (row (x1 c) (w1 c) (b1 c) (g1 c) (be1 c) (w2 c) (b2 c) (g2 c) (be2 c) (w3 c) (b3 c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ hr c => ⟨(final_value hr.1 c).trans (funext fun _ => out_real (ops_reads (h c)) (ix2 0 0)), final_args hr.1 c⟩)
    (run_main m ρ)

end Cert.KernelIdeal.Hand

end
-- ==== Proof.Pre.lean ====
/-
  What the precondition says of the arguments: each is an array of real numbers, and no row's similarities to the other rows
  add up to a negative number.
-/
module

public import proofs.«01_k».proof.Proof.Gen.Pre_logs_defined
public import proofs.«01_k».proof.Proof.RefReal
public import Idealize.ShloMosaic.Lib.ReduceAll

@[expose] public section

set_option maxRecDepth 16384

noncomputable section

namespace Cert.Pre_logs_defined.Hand

open Idealize.ShloMosaic Cert.Pre_logs_defined Cert.Pre_logs_defined.Gen Cert.Loss
open Cert.ReferenceIdeal.Hand (maskedSums allSims)

section
variable {F : FTy → Type} [FloatOps F]

/-- Whether every entry of `x` is finite. -/
def finite {s : Shape} {axes : List (Fin s.rank)} (b : S_.BroadcastsInDim s (![] : Fin 0 → Fin s.rank)) (r : s.ReducesTo axes S_) (x : FVec F s .f32) : IVec S_ 1 :=
  Host.reduce IntOp.andi (cmpf .olt (Host.absf x) (broadcastInDim s ![] b (constant S_ .f32 0x7F800000#32))) (constantI S_ 1 1#1) r h_S_

/-- Whether all twelve arguments are finite. -/
def allFinite (x0 x1 : FVec F S8192x512 .f32) (w1 : FVec F S512x256 .f32) (b1 g1 be1 : FVec F S256 .f32)
    (w2 : FVec F S256x256 .f32) (b2 g2 be2 : FVec F S256 .f32) (w3 : FVec F S256x128 .f32) (b3 : FVec F S128 .f32) : IVec S_ 1 :=
  andi (andi (andi (andi (andi (andi (andi (andi (andi (andi (andi (andi (constantI S_ 1 1#1)
    (finite bcast_S_S8192x512 reducesTo_S8192x512_S_d0_1 x0)) (finite bcast_S_S8192x512 reducesTo_S8192x512_S_d0_1 x1))
    (finite bcast_S_S512x256 reducesTo_S512x256_S_d0_1 w1)) (finite bcast_S_S256 reducesTo_S256_S_d0 b1))
    (finite bcast_S_S256 reducesTo_S256_S_d0 g1)) (finite bcast_S_S256 reducesTo_S256_S_d0 be1))
    (finite bcast_S_S256x256 reducesTo_S256x256_S_d0_1 w2)) (finite bcast_S_S256 reducesTo_S256_S_d0 b2))
    (finite bcast_S_S256 reducesTo_S256_S_d0 g2)) (finite bcast_S_S256 reducesTo_S256_S_d0 be2))
    (finite bcast_S_S256x128 reducesTo_S256x128_S_d0_1 w3)) (finite bcast_S_S128 reducesTo_S128_S_d0 b3)

/-- The precondition in these terms. -/
theorem fn_eq (x0 x1 : FVec F S8192x512 .f32) (w1 : FVec F S512x256 .f32) (b1 g1 be1 : FVec F S256 .f32)
    (w2 : FVec F S256x256 .f32) (b2 g2 be2 : FVec F S256 .f32) (w3 : FVec F S256x128 .f32) (b3 : FVec F S128 .f32) :
    fn x0 x1 w1 b1 g1 be1 w2 b2 g2 be2 w3 b3
      = andi (broadcastInDim S16384 ![] bcast_S_S16384 (allFinite x0 x1 w1 b1 g1 be1 w2 b2 g2 be2 w3 b3))
        (cmpf .oge (maskedSums (allSims x0 x1 w1 b1 g1 be1 w2 b2 g2 be2 w3 b3))
          (broadcastInDim S16384 ![] bcast_S_S16384 (constant S_ .f32 0x00000000#32))) := rfl

end

theorem and_one : ∀ a b : BitVec 1, IntOp.andi a b = 1#1 → a = 1#1 ∧ b = 1#1 := by decide

theorem word_inf : Ideal.ofBits .f32 0x7F800000#32 = ⊤ := by simp [Ideal.ofBits, Ideal.ieee]

/-- An entry that compares as finite is a real number. -/
theorem finite_apply {s : Shape} {axes : List (Fin s.rank)} {b : S_.BroadcastsInDim s (![] : Fin 0 → Fin s.rank)} {r : s.ReducesTo axes S_}
    {x : FVec Ideal s .f32} {j : S_.Idx} (h : finite b r x j = 1#1) (i : s.Idx) : ((EReal.toReal (x i) : ℝ) : EReal) = x i := by
  have e : Ideal.cmp .olt (max (x i : EReal) (-(x i : EReal))) (Ideal.ofBits .f32 0x7F800000#32) = 1 := Host.reduce_andi_all _ _ _ _ j h i
  rw [Ideal.cmp_olt_eq_one, word_inf, max_lt_iff] at e
  refine EReal.coe_toReal e.1.ne fun hb => ?_
  rw [hb, EReal.neg_bot] at e
  exact lt_irrefl _ e.2

/-- A matrix of finite entries is one of real numbers. -/
theorem finite_matrix {n k : ℕ} {axes : List (Fin 2)} {b : S_.BroadcastsInDim ⟨2, ![n, k]⟩ ![]} {r : (⟨2, ![n, k]⟩ : Shape).ReducesTo axes S_}
    {x : FVec Ideal ⟨2, ![n, k]⟩ .f32} {j : S_.Idx} (h : finite b r x j = 1#1) : ∃ f, x = A2 f := by
  refine ⟨fun p q => if hp : p < n ∧ q < k then EReal.toReal (x (ix2 ⟨p, hp.1⟩ ⟨q, hp.2⟩)) else 0, ?_⟩
  funext y
  obtain ⟨p, q, rfl⟩ : ∃ (p : Fin n) (q : Fin k), y = ix2 p q := ⟨y 0, y 1, by funext a; fin_cases a <;> rfl⟩
  rw [A2_apply, dif_pos ⟨p.isLt, q.isLt⟩]
  exact (finite_apply h _).symm

/-- A vector of finite entries is one of real numbers. -/
theorem finite_vector {n : ℕ} {axes : List (Fin 1)} {b : S_.BroadcastsInDim ⟨1, ![n]⟩ ![]} {r : (⟨1, ![n]⟩ : Shape).ReducesTo axes S_}
    {x : FVec Ideal ⟨1, ![n]⟩ .f32} {j : S_.Idx} (h : finite b r x j = 1#1) : ∃ f, x = A1 f := by
  refine ⟨fun p => if hp : p < n then EReal.toReal (x (ix1 ⟨p, hp⟩)) else 0, ?_⟩
  funext y
  obtain ⟨p, rfl⟩ : ∃ p : Fin n, y = ix1 p := ⟨y 0, by funext a; fin_cases a; rfl⟩
  rw [A1_apply, dif_pos p.isLt]
  exact (finite_apply h _).symm

/-- The two halves of the precondition. -/
theorem halves {p : IVec S_ 1} {q : FVec Ideal S16384 .f32}
    (h : andi (broadcastInDim S16384 ![] bcast_S_S16384 p)
      (cmpf .oge q (broadcastInDim S16384 ![] bcast_S_S16384 (constant S_ .f32 0x00000000#32))) = fun _ => 1#1) (i : Fin 16384) :
    p ix0 = 1#1 ∧ (0 : EReal) ≤ q (ix1 i) := by
  have e := and_one _ _ (congrFun h (ix1 i))
  refine ⟨?_, ?_⟩
  · rw [← e.1]
    exact congrArg p (Subsingleton.elim _ _)
  · have hz : Ideal.ofBits .f32 0x00000000#32 = 0 := by simp [Ideal.ofBits, Ideal.ieee]
    rw [← hz]
    exact (Ideal.cmp_oge_eq_one _ _).mp e.2

/-- The arguments as arrays of real numbers, and the sums that the loss takes logarithms of. -/
theorem real_args {X0 X1 : FVec Ideal S8192x512 .f32} {W1 : FVec Ideal S512x256 .f32} {B1 G1 E1 : FVec Ideal S256 .f32}
    {W2 : FVec Ideal S256x256 .f32} {B2 G2 E2 : FVec Ideal S256 .f32} {W3 : FVec Ideal S256x128 .f32} {B3 : FVec Ideal S128 .f32}
    (h : fn X0 X1 W1 B1 G1 E1 W2 B2 G2 E2 W3 B3 = fun _ => 1#1) :
    ∃ x0 x1 w1 b1 g1 e1 w2 b2 g2 e2 w3 b3, X0 = A2 x0 ∧ X1 = A2 x1 ∧ W1 = A2 w1 ∧ B1 = A1 b1 ∧ G1 = A1 g1 ∧ E1 = A1 e1
      ∧ W2 = A2 w2 ∧ B2 = A1 b2 ∧ G2 = A1 g2 ∧ E2 = A1 e2 ∧ W3 = A2 w3 ∧ B3 = A1 b3
      ∧ ∀ i < 16384, 0 ≤ den (both (row x0 w1 b1 g1 e1 w2 b2 g2 e2 w3 b3) (row x1 w1 b1 g1 e1 w2 b2 g2 e2 w3 b3)) i := by
  rw [fn_eq] at h
  have hq := fun i => (halves h i).2
  obtain ⟨h, h11⟩ := and_one _ _ (halves h ⟨0, by decide⟩).1
  obtain ⟨h, h10⟩ := and_one _ _ h
  obtain ⟨h, h9⟩ := and_one _ _ h
  obtain ⟨h, h8⟩ := and_one _ _ h
  obtain ⟨h, h7⟩ := and_one _ _ h
  obtain ⟨h, h6⟩ := and_one _ _ h
  obtain ⟨h, h5⟩ := and_one _ _ h
  obtain ⟨h, h4⟩ := and_one _ _ h
  obtain ⟨h, h3⟩ := and_one _ _ h
  obtain ⟨h, h2⟩ := and_one _ _ h
  obtain ⟨h, h1⟩ := and_one _ _ h
  obtain ⟨-, h0⟩ := and_one _ _ h
  obtain ⟨x0, rfl⟩ := finite_matrix h0
  obtain ⟨x1, rfl⟩ := finite_matrix h1
  obtain ⟨w1, rfl⟩ := finite_matrix h2
  obtain ⟨b1, rfl⟩ := finite_vector h3
  obtain ⟨g1, rfl⟩ := finite_vector h4
  obtain ⟨e1, rfl⟩ := finite_vector h5
  obtain ⟨w2, rfl⟩ := finite_matrix h6
  obtain ⟨b2, rfl⟩ := finite_vector h7
  obtain ⟨g2, rfl⟩ := finite_vector h8
  obtain ⟨e2, rfl⟩ := finite_vector h9
  obtain ⟨w3, rfl⟩ := finite_matrix h10
  obtain ⟨b3, rfl⟩ := finite_vector h11
  refine ⟨x0, x1, w1, b1, g1, e1, w2, b2, g2, e2, w3, b3, rfl, rfl, rfl, rfl, rfl, rfl, rfl, rfl, rfl, rfl, rfl, rfl, fun i hi => ?_⟩
  have hd := hq ⟨i, hi⟩
  rw [Cert.ReferenceIdeal.Hand.reference_real, Cert.ReferenceIdeal.Hand.maskedSums_real, A1_apply] at hd
  exact EReal.coe_nonneg.mp hd

end Cert.Pre_logs_defined.Hand

end
-- ==== Proof.lean ====
/-
  The certificate: the three frames, the named constants, and the equality of the kernel's and the reference's results.
  Each is proved in its own module; `claim` puts them together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_logs_defined
public import proofs.«01_k».proof.Proof.KernelFrame
public import proofs.«01_k».proof.Proof.Body
public import proofs.«01_k».proof.Proof.RefReal
public import proofs.«01_k».proof.Proof.KernelValue
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The reference's frame. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Hand.run_value (F := Ideal) m ρ)

/-- Each named constant of the idealized kernel reads as the number its table gives. -/
theorem preserves : Cert.preserves_Kernel_KernelIdeal :=
  ⟨IdealRules.named_const.statement _ _ _ _ _ rfl, IdealRules.named_const.statement _ _ _ _ _ rfl,
    IdealRules.named_const.statement _ _ _ _ _ rfl⟩

/-- Under the precondition each device's arguments are arrays of real numbers; on these the kernel's result and the reference's
    are both the loss of the two halves' unit rows. -/
theorem algebraic : Cert.algebraic_KernelIdeal_ReferenceIdeal_pre_logs_defined := fun m g m' g' hpre hargs => by
  choose x0 x1 w1 b1 g1 e1 w2 b2 g2 e2 w3 b3 hx0 hx1 hw1 hb1 hg1 he1 hw2 hb2 hg2 he2 hw3 hb3 hden using fun c => Cert.Pre_logs_defined.Hand.real_args (hpre c)
  have hm : ∀ c, Cert.KernelIdeal.Hand.Args m c (x0 c) (x1 c) (w1 c) (b1 c) (g1 c) (e1 c) (w2 c) (b2 c) (g2 c) (e2 c) (w3 c) (b3 c) :=
    fun c => ⟨hx0 c, hx1 c, hw1 c, hb1 c, hg1 c, he1 c, hw2 c, hb2 c, hg2 c, he2 c, hw3 c, hb3 c⟩
  refine ⟨_, Cert.KernelIdeal.Hand.run_value g hm, (θ_run Cert.ReferenceIdeal.defs _ _).mono (fun r h c => ⟨(h c).1.trans ?_, (h c).2⟩)
    (Cert.ReferenceIdeal.Hand.run_value (F := Ideal) m' g')⟩
  obtain ⟨a0, a1, a2, a3, a4, a5, a6, a7, a8, a9, a10, a11⟩ := hargs c
  rw [a0, a1, a2, a3, a4, a5, a6, a7, a8, a9, a10, a11, hx0, hx1, hw1, hb1, hg1, he1, hw2, hb2, hg2, he2, hw3, hb3, Cert.ReferenceIdeal.Hand.reference_real]
  exact funext (Cert.ReferenceIdeal.Hand.lossOf_real _ (hden c))

theorem claim : Cert.Claim := ⟨Cert.Kernel.Gen.facts, Cert.KernelIdeal.Gen.facts, Cert.ReferenceIdeal.Gen.facts, Cert.Pre_logs_defined.Gen.facts,
  fun m ρ _ => Cert.Kernel.Hand.frame m ρ,
  fun m ρ _ => Cert.KernelIdeal.Hand.frame m ρ,
  fun m ρ _ => Cert.KernelIdeal.Hand.frame m ρ,
  frame_reference,
  fun m ρ _ => frame_reference m ρ trivial,
  preserves,
  algebraic⟩

end Cert.Proof

end
